-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_pad_finite [hPre_in_range_pad_finite : Cert.Pre_in_range_pad_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_pad_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_pad_finite [hPre_in_range_pad_finite : Cert.Pre_in_range_pad_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_pad_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_pad_finite [hKernelIdeal : Cert.KernelIdeal.Facts] [hPre_in_range_pad_finite : Cert.Pre_in_range_pad_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_pad_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_pad_finite [hReferenceIdeal : Cert.ReferenceIdeal.Facts] [hPre_in_range_pad_finite : Cert.Pre_in_range_pad_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_pad_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_pad_finite [hKernelIdeal : Cert.KernelIdeal.Facts] [hReferenceIdeal : Cert.ReferenceIdeal.Facts] [hPre_in_range_pad_finite : Cert.Pre_in_range_pad_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_pad_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_pad_finite : Cert.Pre_in_range_pad_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_pad_finite (hKernelIdeal := hKernelIdeal) (hPre_in_range_pad_finite := hPre_in_range_pad_finite)
    ∧ quiescent_ReferenceIdeal (hReferenceIdeal := hReferenceIdeal)
    ∧ quiescent_ReferenceIdeal_pre_in_range_pad_finite (hReferenceIdeal := hReferenceIdeal) (hPre_in_range_pad_finite := hPre_in_range_pad_finite)
    ∧ preserves_Kernel_KernelIdeal
    ∧ algebraic_KernelIdeal_ReferenceIdeal_pre_in_range_pad_finite (hKernelIdeal := hKernelIdeal) (hReferenceIdeal := hReferenceIdeal) (hPre_in_range_pad_finite := hPre_in_range_pad_finite)
-- ==== Pre_in_range.lean ====
abbrev S4096x50 : Shape := ⟨2, ![4096, 50]⟩
abbrev S1000000x64 : Shape := ⟨2, ![1000000, 64]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S1000000x64 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Pre_in_range_pad_finite.lean ====
abbrev S4096x50 : Shape := ⟨2, ![4096, 50]⟩
abbrev S1000000x64 : Shape := ⟨2, ![1000000, 64]⟩
abbrev S_ : Shape := ⟨0, ![]⟩
abbrev S1x64 : Shape := ⟨2, ![1, 64]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  slices_S1000000x64_S1x64_0_0 : S1000000x64.Slices ![0, 0] S1x64
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : IVec S4096x50 32) (main_arg1 : FVec F S1000000x64 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_v6 : FVec F S1x64 .f32 := (extractStridedSlice S1x64 ![0, 0] · slices_S1000000x64_S1x64_0_0) main_arg1
  let main_v7 : FVec F S1x64 .f32 := Host.absf main_v6
  let main_cst : FVec F S_ .f32 := constant S_ .f32 0x7F800000#32
  let main_v8 : FVec F S1x64 .f32 := broadcastInDim S1x64 ![] bcast_S_S1x64 main_cst
  let main_v9 : IVec S1x64 1 := cmpf .olt main_v7 main_v8
  let main_c_2 : IVec S_ 1 := constantI S_ 1 1#1
  let main_v10 : IVec S_ 1 := (fun x v => Host.reduce IntOp.andi x v reducesTo_S1x64_S_d0_1 h_S_) main_v9 main_c_2
  let main_v11 : IVec S_ 1 := andi main_v5 main_v10
  main_v11
-- ==== Kernel.lean ====
abbrev S4096x50 : Shape := ⟨2, ![4096, 50]⟩
abbrev S1000000x64 : Shape := ⟨2, ![1000000, 64]⟩
abbrev S_ : Shape := ⟨0, ![]⟩
abbrev S4096x128 : Shape := ⟨2, ![4096, 128]⟩
abbrev S64x1000000 : Shape := ⟨2, ![64, 1000000]⟩
abbrev S1000000x128 : Shape := ⟨2, ![1000000, 128]⟩
abbrev S64x32768 : Shape := ⟨2, ![64, 32768]⟩
abbrev S32768x128 : Shape := ⟨2, ![32768, 128]⟩
abbrev S32768x64 : Shape := ⟨2, ![32768, 64]⟩
abbrev S4096x64 : Shape := ⟨2, ![4096, 64]⟩
abbrev S128x128 : Shape := ⟨2, ![128, 128]⟩
abbrev S64x100 : Shape := ⟨2, ![64, 100]⟩
abbrev S100x128 : Shape := ⟨2, ![100, 128]⟩
abbrev S1x128 : Shape := ⟨2, ![1, 128]⟩
abbrev S128x64 : Shape := ⟨2, ![128, 64]⟩
abbrev S1x16 : Shape := ⟨2, ![1, 16]⟩
abbrev S16 : Shape := ⟨1, ![16]⟩
abbrev S1x100 : Shape := ⟨2, ![1, 100]⟩
abbrev S100 : Shape := ⟨1, ![100]⟩
abbrev S1 : Shape := ⟨1, ![1]⟩

abbrev nBuf : Table → Nat
  | .hbm => 8
  | .local .tc .vmem => 4
  | .local .scVector .vmem => 8
  | _ => 0

abbrev bufTy : (tb : Table) → Fin (nBuf tb) → BufTy
  | .hbm, ⟨0, _⟩ => ⟨S4096x50, .i32⟩
  | .hbm, ⟨1, _⟩ => ⟨S1000000x64, .f32⟩
  | .hbm, ⟨2, _⟩ => ⟨S_, .i32⟩
  | .hbm, ⟨3, _⟩ => ⟨S_, .i32⟩
  | .hbm, ⟨4, _⟩ => ⟨S4096x128, .i32⟩
  | .hbm, ⟨5, _⟩ => ⟨S64x1000000, .f32⟩
  | .hbm, ⟨6, _⟩ => ⟨S1000000x128, .f32⟩
  | .hbm, ⟨7, _⟩ => ⟨S4096x64, .f32⟩
  | .local .tc .vmem, ⟨0, _⟩ => ⟨S64x32768, .f32⟩
  | .local .tc .vmem, ⟨1, _⟩ => ⟨S64x32768, .f32⟩
  | .local .tc .vmem, ⟨2, _⟩ => ⟨S32768x128, .f32⟩
  | .local .tc .vmem, ⟨3, _⟩ => ⟨S32768x128, .f32⟩
  | .local .scVector .vmem, ⟨0, _⟩ => ⟨S128x128, .i32⟩
  | .local .scVector .vmem, ⟨1, _⟩ => ⟨S64x100, .i32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S100x128, .f32⟩
  | .local .scVector .vmem, ⟨6, _⟩ => ⟨S1x128, .f32⟩
  | .local .scVector .vmem, ⟨7, _⟩ => ⟨S128x64, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_25_r0 : BitVec 32 := 0#32
  ![v2.toNat, 0]
@[reducible] def k1_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k1_off2 (k1_t1 : Fin k1_t1_loop.trips) (c0_i32_26 : BitVec 32) : Fin 2 → Nat :=
  let c2_i32_25 : BitVec 32 := 2#32
  let c0_i32_0 : BitVec 32 := 0#32
  let c1_i32 : BitVec 32 := 1#32
  let arg17 : BitVec 32 := Scf.iv c0_i32_0 c1_i32 k1_t1
  let v30 : BitVec 32 := Scalar.muli c2_i32_25 arg17
  let v31 : BitVec 32 := Scalar.addi v30 c0_i32_26
  let v32 : Index := Scalar.indexCast v31
  let c0_27 : Index := 0#32
  ![v32.toNat, 0]
def k1_off3 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v35 : Index := Scalar.indexCast arg17
  let c0_28 : Index := 0#32
  ![v35.toNat, 0]
def k1_off4 (k1_t1 : Fin k1_t1_loop.trips) (c0_i32_30 : BitVec 32) : Fin 2 → Nat :=
  let c2_i32_29 : BitVec 32 := 2#32
  let c0_i32_0 : BitVec 32 := 0#32
  let c1_i32 : BitVec 32 := 1#32
  let arg17 : BitVec 32 := Scf.iv c0_i32_0 c1_i32 k1_t1
  let v39 : BitVec 32 := Scalar.muli c2_i32_29 arg17
  let v40 : BitVec 32 := Scalar.addi v39 c0_i32_30
  let v41 : Index := Scalar.indexCast v40
  let c16_31 : Index := 16#32
  ![v41.toNat, 16]
def k1_off5 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v44 : Index := Scalar.indexCast arg17
  let c16_32 : Index := 16#32
  ![v44.toNat, 16]
def k1_off6 (k1_t1 : Fin k1_t1_loop.trips) (c0_i32_34 : BitVec 32) : Fin 2 → Nat :=
  let c2_i32_33 : BitVec 32 := 2#32
  let c0_i32_0 : BitVec 32 := 0#32
  let c1_i32 : BitVec 32 := 1#32
  let arg17 : BitVec 32 := Scf.iv c0_i32_0 c1_i32 k1_t1
  let v48 : BitVec 32 := Scalar.muli c2_i32_33 arg17
  let v49 : BitVec 32 := Scalar.addi v48 c0_i32_34
  let v50 : Index := Scalar.indexCast v49
  let c32_35 : Index := 32#32
  ![v50.toNat, 32]
def k1_off7 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v53 : Index := Scalar.indexCast arg17
  let c32_36 : Index := 32#32
  ![v53.toNat, 32]
def k1_off8 (k1_t1 : Fin k1_t1_loop.trips) (c0_i32_38 : BitVec 32) : Fin 2 → Nat :=
  let c2_i32_37 : BitVec 32 := 2#32
  let c0_i32_0 : BitVec 32 := 0#32
  let c1_i32 : BitVec 32 := 1#32
  let arg17 : BitVec 32 := Scf.iv c0_i32_0 c1_i32 k1_t1
  let v57 : BitVec 32 := Scalar.muli c2_i32_37 arg17
  let v58 : BitVec 32 := Scalar.addi v57 c0_i32_38
  let v59 : Index := Scalar.indexCast v58
  let c34 : Index := 34#32
  ![v59.toNat, 34]
def k1_off9 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v62 : Index := Scalar.indexCast arg17
  let c34_39 : Index := 34#32
  ![v62.toNat, 34]
def k1_off10 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v71 : Index := Scalar.indexCast arg17
  let c50 : Index := 50#32
  ![v71.toNat, 50]
def k1_off11 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v80 : Index := Scalar.indexCast arg17
  let c66 : Index := 66#32
  ![v80.toNat, 66]
def k1_off12 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v89 : Index := Scalar.indexCast arg17
  let c82 : Index := 82#32
  ![v89.toNat, 82]
def k1_off13 (k1_t1 : Fin k1_t1_loop.trips) : Fin 2 → Nat :=
  let c0_i32_0 : BitVec 32 := 0#32
  let c1_i32 : BitVec 32 := 1#32
  let arg17 : BitVec 32 := Scf.iv c0_i32_0 c1_i32 k1_t1
  let v98 : Index := Scalar.indexCast arg17
  let c84 : Index := 84#32
  ![v98.toNat, 84]
@[reducible] def k1_t2_loop : Scf.Loop 32 :=
  let c0_i32_21 : BitVec 32 := 0#32
  let c16_i32 : BitVec 32 := 16#32
  let v28 : BitVec 32 := Scalar.addi c0_i32_21 c16_i32
  let c1_i32_22 : BitVec 32 := 1#32
  ⟨c0_i32_21, v28, c1_i32_22⟩
def k1_cond1 (k1_t2 : Fin k1_t2_loop.trips) : BitVec 1 :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c0_i32_25 : BitVec 32 := 0#32
  let v31 : BitVec 32 := Scalar.addi v30 c0_i32_25
  let c4_i32_26 : BitVec 32 := 4#32
  let v32 : BitVec 32 := Scalar.addi v31 c4_i32_26
  let c1_i32_27 : BitVec 32 := 1#32
  let v33 : BitVec 32 := Scalar.subi v32 c1_i32_27
  let c64_i32_28 : BitVec 32 := 64#32
  let v34 : BitVec 1 := Scalar.cmpi .slt v33 c64_i32_28
  let v35 : BitVec 32 := Scalar.extui v34
  let c0_i32_29 : BitVec 32 := 0#32
  let v36 : BitVec 1 := Scalar.cmpi .ne v35 c0_i32_29
  v36

def k1_off14 (k1_t2 : Fin k1_t2_loop.trips) : Fin 2 → Nat :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c0_i32_25 : BitVec 32 := 0#32
  let v31 : BitVec 32 := Scalar.addi v30 c0_i32_25
  let c4_i32_26 : BitVec 32 := 4#32
  let v32 : BitVec 32 := Scalar.addi v31 c4_i32_26
  let c1_i32_27 : BitVec 32 := 1#32
  let v33 : BitVec 32 := Scalar.subi v32 c1_i32_27
  let c0_i32_239 : BitVec 32 := 0#32
  ![v33.toNat, 0]
def k1_off15 (k1_t2 : Fin k1_t2_loop.trips) (c0_i32_25 : BitVec 32) : Fin 2 → Nat :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let c0_i32_30 : BitVec 32 := 0#32
  ![v31.toNat, 0]
def k1_off16 (k1_t2 : Fin k1_t2_loop.trips) (c0_i32_25 : BitVec 32) (c0_i32_34 : BitVec 32) : Fin 2 → Nat :=
  let c2_i32_33 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v40 : BitVec 32 := Scalar.muli c2_i32_33 v31
  let v41 : BitVec 32 := Scalar.addi v40 c0_i32_34
  let v42 : Index := Scalar.indexCast v41
  let c0_35 : Index := 0#32
  ![v42.toNat, 0]
def k1_off17 (k1_t2 : Fin k1_t2_loop.trips) (c0_i32_25 : BitVec 32) (c0_i32_34 : BitVec 32) : Fin 2 → Nat :=
  let c2_i32_33 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v40 : BitVec 32 := Scalar.muli c2_i32_33 v31
  let v41 : BitVec 32 := Scalar.addi v40 c0_i32_34
  let v49 : Index := Scalar.indexCast v41
  let c16_37 : Index := 16#32
  ![v49.toNat, 16]
def k1_off18 (k1_t2 : Fin k1_t2_loop.trips) (c0_i32_25 : BitVec 32) (c0_i32_34 : BitVec 32) : Fin 2 → Nat :=
  let c2_i32_33 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v40 : BitVec 32 := Scalar.muli c2_i32_33 v31
  let v41 : BitVec 32 := Scalar.addi v40 c0_i32_34
  let v56 : Index := Scalar.indexCast v41
  let c32_39 : Index := 32#32
  ![v56.toNat, 32]
def k1_off19 (k1_t2 : Fin k1_t2_loop.trips) (c0_i32_25 : BitVec 32) (c0_i32_34 : BitVec 32) : Fin 2 → Nat :=
  let c2_i32_33 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v40 : BitVec 32 := Scalar.muli c2_i32_33 v31
  let v41 : BitVec 32 := Scalar.addi v40 c0_i32_34
  let v63 : Index := Scalar.indexCast v41
  let c48_41 : Index := 48#32
  ![v63.toNat, 48]
@[reducible] def k1_t3_loop : Scf.Loop 32 :=
  let c0_i32_46 : BitVec 32 := 0#32
  let c50_i32 : BitVec 32 := 50#32
  let v111 : BitVec 32 := Scalar.addi c0_i32_46 c50_i32
  let c1_i32_47 : BitVec 32 := 1#32
  ⟨c0_i32_46, v111, c1_i32_47⟩
def k1_off20 (k1_t3 : Fin k1_t3_loop.trips) : Fin 2 → Nat :=
  let c0_i32_239 : BitVec 32 := 0#32
  let c0_i32_46 : BitVec 32 := 0#32
  let c1_i32_47 : BitVec 32 := 1#32
  let arg18 : BitVec 32 := Scf.iv c0_i32_46 c1_i32_47 k1_t3
  let v891 : BitVec 32 := Scalar.addi c0_i32_239 arg18
  let v892 : Index := Scalar.indexCast v891
  let c0_240 : Index := 0#32
  ![v892.toNat, 0]
def k1_off21 (k1_t3 : Fin k1_t3_loop.trips) : Fin 2 → Nat :=
  let c0_i32_239 : BitVec 32 := 0#32
  let c0_i32_46 : BitVec 32 := 0#32
  let c1_i32_47 : BitVec 32 := 1#32
  let arg18 : BitVec 32 := Scf.iv c0_i32_46 c1_i32_47 k1_t3
  let v891 : BitVec 32 := Scalar.addi c0_i32_239 arg18
  let v896 : Index := Scalar.indexCast v891
  let c16_241 : Index := 16#32
  ![v896.toNat, 16]
def k1_off22 (k1_t3 : Fin k1_t3_loop.trips) : Fin 2 → Nat :=
  let c0_i32_239 : BitVec 32 := 0#32
  let c0_i32_46 : BitVec 32 := 0#32
  let c1_i32_47 : BitVec 32 := 1#32
  let arg18 : BitVec 32 := Scf.iv c0_i32_46 c1_i32_47 k1_t3
  let v891 : BitVec 32 := Scalar.addi c0_i32_239 arg18
  let v900 : Index := Scalar.indexCast v891
  let c32_242 : Index := 32#32
  ![v900.toNat, 32]
def k1_off23 (k1_t3 : Fin k1_t3_loop.trips) : Fin 2 → Nat :=
  let c0_i32_239 : BitVec 32 := 0#32
  let c0_i32_46 : BitVec 32 := 0#32
  let c1_i32_47 : BitVec 32 := 1#32
  let arg18 : BitVec 32 := Scf.iv c0_i32_46 c1_i32_47 k1_t3
  let v891 : BitVec 32 := Scalar.addi c0_i32_239 arg18
  let v904 : Index := Scalar.indexCast v891
  let c48_243 : Index := 48#32
  ![v904.toNat, 48]
def k1_off24 (k1_t2 : Fin k1_t2_loop.trips) (c0_i32_25 : BitVec 32) (c0_i32_50 : BitVec 32) : Fin 2 → Nat :=
  let c2_i32_49 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v113 : BitVec 32 := Scalar.muli c2_i32_49 v31
  let v114 : BitVec 32 := Scalar.addi v113 c0_i32_50
  let v118 : Index := Scalar.indexCast v114
  let c0_51 : Index := 0#32
  ![v118.toNat, 0]
def k1_off25 (k1_t2 : Fin k1_t2_loop.trips) (c0_i32_25 : BitVec 32) (c0_i32_50 : BitVec 32) : Fin 2 → Nat :=
  let c2_i32_49 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v113 : BitVec 32 := Scalar.muli c2_i32_49 v31
  let v114 : BitVec 32 := Scalar.addi v113 c0_i32_50
  let v125 : Index := Scalar.indexCast v114
  let c16_52 : Index := 16#32
  ![v125.toNat, 16]
def k1_off26 (k1_t2 : Fin k1_t2_loop.trips) (c0_i32_25 : BitVec 32) (c0_i32_50 : BitVec 32) : Fin 2 → Nat :=
  let c2_i32_49 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v113 : BitVec 32 := Scalar.muli c2_i32_49 v31
  let v114 : BitVec 32 := Scalar.addi v113 c0_i32_50
  let v132 : Index := Scalar.indexCast v114
  let c32_53 : Index := 32#32
  ![v132.toNat, 32]
def k1_off27 (k1_t2 : Fin k1_t2_loop.trips) (c0_i32_25 : BitVec 32) (c0_i32_50 : BitVec 32) : Fin 2 → Nat :=
  let c2_i32_49 : BitVec 32 := 2#32
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let v31 : BitVec 32 := Scalar.addi v30 c0_i32_25
  let v113 : BitVec 32 := Scalar.muli c2_i32_49 v31
  let v114 : BitVec 32 := Scalar.addi v113 c0_i32_50
  let v139 : Index := Scalar.indexCast v114
  let c48_54 : Index := 48#32
  ![v139.toNat, 48]
@[reducible] def k1_t4_loop : Scf.Loop 32 :=
  let c0_i32_68 : BitVec 32 := 0#32
  let c50_i32_69 : BitVec 32 := 50#32
  let v214 : BitVec 32 := Scalar.addi c0_i32_68 c50_i32_69
  let c1_i32_70 : BitVec 32 := 1#32
  ⟨c0_i32_68, v214, c1_i32_70⟩
def k1_off28 (k1_t4 : Fin k1_t4_loop.trips) : Fin 2 → Nat :=
  let c50_i32_239 : BitVec 32 := 50#32
  let c0_i32_68 : BitVec 32 := 0#32
  let c1_i32_70 : BitVec 32 := 1#32
  let arg18 : BitVec 32 := Scf.iv c0_i32_68 c1_i32_70 k1_t4
  let v891 : BitVec 32 := Scalar.addi c50_i32_239 arg18
  let v892 : Index := Scalar.indexCast v891
  let c0_240 : Index := 0#32
  ![v892.toNat, 0]
def k1_off29 (k1_t4 : Fin k1_t4_loop.trips) : Fin 2 → Nat :=
  let c50_i32_239 : BitVec 32 := 50#32
  let c0_i32_68 : BitVec 32 := 0#32
  let c1_i32_70 : BitVec 32 := 1#32
  let arg18 : BitVec 32 := Scf.iv c0_i32_68 c1_i32_70 k1_t4
  let v891 : BitVec 32 := Scalar.addi c50_i32_239 arg18
  let v896 : Index := Scalar.indexCast v891
  let c16_241 : Index := 16#32
  ![v896.toNat, 16]
def k1_off30 (k1_t4 : Fin k1_t4_loop.trips) : Fin 2 → Nat :=
  let c50_i32_239 : BitVec 32 := 50#32
  let c0_i32_68 : BitVec 32 := 0#32
  let c1_i32_70 : BitVec 32 := 1#32
  let arg18 : BitVec 32 := Scf.iv c0_i32_68 c1_i32_70 k1_t4
  let v891 : BitVec 32 := Scalar.addi c50_i32_239 arg18
  let v900 : Index := Scalar.indexCast v891
  let c32_242 : Index := 32#32
  ![v900.toNat, 32]
def k1_off31 (k1_t4 : Fin k1_t4_loop.trips) : Fin 2 → Nat :=
  let c50_i32_239 : BitVec 32 := 50#32
  let c0_i32_68 : BitVec 32 := 0#32
  let c1_i32_70 : BitVec 32 := 1#32
  let arg18 : BitVec 32 := Scf.iv c0_i32_68 c1_i32_70 k1_t4
  let v891 : BitVec 32 := Scalar.addi c50_i32_239 arg18
  let v904 : Index := Scalar.indexCast v891
  let c48_243 : Index := 48#32
  ![v904.toNat, 48]
def k1_cond2 (k1_t2 : Fin k1_t2_loop.trips) : BitVec 1 :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c1_i32_78 : BitVec 32 := 1#32
  let v246 : BitVec 32 := Scalar.addi v30 c1_i32_78
  let c4_i32_79 : BitVec 32 := 4#32
  let v247 : BitVec 32 := Scalar.addi v246 c4_i32_79
  let c1_i32_80 : BitVec 32 := 1#32
  let v248 : BitVec 32 := Scalar.subi v247 c1_i32_80
  let c64_i32_81 : BitVec 32 := 64#32
  let v249 : BitVec 1 := Scalar.cmpi .slt v248 c64_i32_81
  let v250 : BitVec 32 := Scalar.extui v249
  let c0_i32_82 : BitVec 32 := 0#32
  let v251 : BitVec 1 := Scalar.cmpi .ne v250 c0_i32_82
  v251

def k1_off32 (k1_t2 : Fin k1_t2_loop.trips) : Fin 2 → Nat :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c1_i32_78 : BitVec 32 := 1#32
  let v246 : BitVec 32 := Scalar.addi v30 c1_i32_78
  let c4_i32_79 : BitVec 32 := 4#32
  let v247 : BitVec 32 := Scalar.addi v246 c4_i32_79
  let c1_i32_80 : BitVec 32 := 1#32
  let v248 : BitVec 32 := Scalar.subi v247 c1_i32_80
  let c0_i32_239 : BitVec 32 := 0#32
  ![v248.toNat, 0]
@[reducible] def k1_t5_loop : Scf.Loop 32 :=
  let c0_i32_99 : BitVec 32 := 0#32
  let c50_i32_100 : BitVec 32 := 50#32
  let v326 : BitVec 32 := Scalar.addi c0_i32_99 c50_i32_100
  let c1_i32_101 : BitVec 32 := 1#32
  ⟨c0_i32_99, v326, c1_i32_101⟩
def k1_off33 (k1_t5 : Fin k1_t5_loop.trips) : Fin 2 → Nat :=
  let c0_i32_239 : BitVec 32 := 0#32
  let c0_i32_99 : BitVec 32 := 0#32
  let c1_i32_101 : BitVec 32 := 1#32
  let arg18 : BitVec 32 := Scf.iv c0_i32_99 c1_i32_101 k1_t5
  let v891 : BitVec 32 := Scalar.addi c0_i32_239 arg18
  let v892 : Index := Scalar.indexCast v891
  let c0_240 : Index := 0#32
  ![v892.toNat, 0]
def k1_off34 (k1_t5 : Fin k1_t5_loop.trips) : Fin 2 → Nat :=
  let c0_i32_239 : BitVec 32 := 0#32
  let c0_i32_99 : BitVec 32 := 0#32
  let c1_i32_101 : BitVec 32 := 1#32
  let arg18 : BitVec 32 := Scf.iv c0_i32_99 c1_i32_101 k1_t5
  let v891 : BitVec 32 := Scalar.addi c0_i32_239 arg18
  let v896 : Index := Scalar.indexCast v891
  let c16_241 : Index := 16#32
  ![v896.toNat, 16]
def k1_off35 (k1_t5 : Fin k1_t5_loop.trips) : Fin 2 → Nat :=
  let c0_i32_239 : BitVec 32 := 0#32
  let c0_i32_99 : BitVec 32 := 0#32
  let c1_i32_101 : BitVec 32 := 1#32
  let arg18 : BitVec 32 := Scf.iv c0_i32_99 c1_i32_101 k1_t5
  let v891 : BitVec 32 := Scalar.addi c0_i32_239 arg18
  let v900 : Index := Scalar.indexCast v891
  let c32_242 : Index := 32#32
  ![v900.toNat, 32]
def k1_off36 (k1_t5 : Fin k1_t5_loop.trips) : Fin 2 → Nat :=
  let c0_i32_239 : BitVec 32 := 0#32
  let c0_i32_99 : BitVec 32 := 0#32
  let c1_i32_101 : BitVec 32 := 1#32
  let arg18 : BitVec 32 := Scf.iv c0_i32_99 c1_i32_101 k1_t5
  let v891 : BitVec 32 := Scalar.addi c0_i32_239 arg18
  let v904 : Index := Scalar.indexCast v891
  let c48_243 : Index := 48#32
  ![v904.toNat, 48]
@[reducible] def k1_t6_loop : Scf.Loop 32 :=
  let c0_i32_122 : BitVec 32 := 0#32
  let c50_i32_123 : BitVec 32 := 50#32
  let v429 : BitVec 32 := Scalar.addi c0_i32_122 c50_i32_123
  let c1_i32_124 : BitVec 32 := 1#32
  ⟨c0_i32_122, v429, c1_i32_124⟩
def k1_off37 (k1_t6 : Fin k1_t6_loop.trips) : Fin 2 → Nat :=
  let c50_i32_239 : BitVec 32 := 50#32
  let c0_i32_122 : BitVec 32 := 0#32
  let c1_i32_124 : BitVec 32 := 1#32
  let arg18 : BitVec 32 := Scf.iv c0_i32_122 c1_i32_124 k1_t6
  let v891 : BitVec 32 := Scalar.addi c50_i32_239 arg18
  let v892 : Index := Scalar.indexCast v891
  let c0_240 : Index := 0#32
  ![v892.toNat, 0]
def k1_off38 (k1_t6 : Fin k1_t6_loop.trips) : Fin 2 → Nat :=
  let c50_i32_239 : BitVec 32 := 50#32
  let c0_i32_122 : BitVec 32 := 0#32
  let c1_i32_124 : BitVec 32 := 1#32
  let arg18 : BitVec 32 := Scf.iv c0_i32_122 c1_i32_124 k1_t6
  let v891 : BitVec 32 := Scalar.addi c50_i32_239 arg18
  let v896 : Index := Scalar.indexCast v891
  let c16_241 : Index := 16#32
  ![v896.toNat, 16]
def k1_off39 (k1_t6 : Fin k1_t6_loop.trips) : Fin 2 → Nat :=
  let c50_i32_239 : BitVec 32 := 50#32
  let c0_i32_122 : BitVec 32 := 0#32
  let c1_i32_124 : BitVec 32 := 1#32
  let arg18 : BitVec 32 := Scf.iv c0_i32_122 c1_i32_124 k1_t6
  let v891 : BitVec 32 := Scalar.addi c50_i32_239 arg18
  let v900 : Index := Scalar.indexCast v891
  let c32_242 : Index := 32#32
  ![v900.toNat, 32]
def k1_off40 (k1_t6 : Fin k1_t6_loop.trips) : Fin 2 → Nat :=
  let c50_i32_239 : BitVec 32 := 50#32
  let c0_i32_122 : BitVec 32 := 0#32
  let c1_i32_124 : BitVec 32 := 1#32
  let arg18 : BitVec 32 := Scf.iv c0_i32_122 c1_i32_124 k1_t6
  let v891 : BitVec 32 := Scalar.addi c50_i32_239 arg18
  let v904 : Index := Scalar.indexCast v891
  let c48_243 : Index := 48#32
  ![v904.toNat, 48]
def k1_cond3 (k1_t2 : Fin k1_t2_loop.trips) : BitVec 1 :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c2_i32_132 : BitVec 32 := 2#32
  let v461 : BitVec 32 := Scalar.addi v30 c2_i32_132
  let c4_i32_133 : BitVec 32 := 4#32
  let v462 : BitVec 32 := Scalar.addi v461 c4_i32_133
  let c1_i32_134 : BitVec 32 := 1#32
  let v463 : BitVec 32 := Scalar.subi v462 c1_i32_134
  let c64_i32_135 : BitVec 32 := 64#32
  let v464 : BitVec 1 := Scalar.cmpi .slt v463 c64_i32_135
  let v465 : BitVec 32 := Scalar.extui v464
  let c0_i32_136 : BitVec 32 := 0#32
  let v466 : BitVec 1 := Scalar.cmpi .ne v465 c0_i32_136
  v466

def k1_off41 (k1_t2 : Fin k1_t2_loop.trips) : Fin 2 → Nat :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c2_i32_132 : BitVec 32 := 2#32
  let v461 : BitVec 32 := Scalar.addi v30 c2_i32_132
  let c4_i32_133 : BitVec 32 := 4#32
  let v462 : BitVec 32 := Scalar.addi v461 c4_i32_133
  let c1_i32_134 : BitVec 32 := 1#32
  let v463 : BitVec 32 := Scalar.subi v462 c1_i32_134
  let c0_i32_239 : BitVec 32 := 0#32
  ![v463.toNat, 0]
@[reducible] def k1_t7_loop : Scf.Loop 32 :=
  let c0_i32_153 : BitVec 32 := 0#32
  let c50_i32_154 : BitVec 32 := 50#32
  let v541 : BitVec 32 := Scalar.addi c0_i32_153 c50_i32_154
  let c1_i32_155 : BitVec 32 := 1#32
  ⟨c0_i32_153, v541, c1_i32_155⟩
def k1_off42 (k1_t7 : Fin k1_t7_loop.trips) : Fin 2 → Nat :=
  let c0_i32_239 : BitVec 32 := 0#32
  let c0_i32_153 : BitVec 32 := 0#32
  let c1_i32_155 : BitVec 32 := 1#32
  let arg18 : BitVec 32 := Scf.iv c0_i32_153 c1_i32_155 k1_t7
  let v891 : BitVec 32 := Scalar.addi c0_i32_239 arg18
  let v892 : Index := Scalar.indexCast v891
  let c0_240 : Index := 0#32
  ![v892.toNat, 0]
def k1_off43 (k1_t7 : Fin k1_t7_loop.trips) : Fin 2 → Nat :=
  let c0_i32_239 : BitVec 32 := 0#32
  let c0_i32_153 : BitVec 32 := 0#32
  let c1_i32_155 : BitVec 32 := 1#32
  let arg18 : BitVec 32 := Scf.iv c0_i32_153 c1_i32_155 k1_t7
  let v891 : BitVec 32 := Scalar.addi c0_i32_239 arg18
  let v896 : Index := Scalar.indexCast v891
  let c16_241 : Index := 16#32
  ![v896.toNat, 16]
def k1_off44 (k1_t7 : Fin k1_t7_loop.trips) : Fin 2 → Nat :=
  let c0_i32_239 : BitVec 32 := 0#32
  let c0_i32_153 : BitVec 32 := 0#32
  let c1_i32_155 : BitVec 32 := 1#32
  let arg18 : BitVec 32 := Scf.iv c0_i32_153 c1_i32_155 k1_t7
  let v891 : BitVec 32 := Scalar.addi c0_i32_239 arg18
  let v900 : Index := Scalar.indexCast v891
  let c32_242 : Index := 32#32
  ![v900.toNat, 32]
def k1_off45 (k1_t7 : Fin k1_t7_loop.trips) : Fin 2 → Nat :=
  let c0_i32_239 : BitVec 32 := 0#32
  let c0_i32_153 : BitVec 32 := 0#32
  let c1_i32_155 : BitVec 32 := 1#32
  let arg18 : BitVec 32 := Scf.iv c0_i32_153 c1_i32_155 k1_t7
  let v891 : BitVec 32 := Scalar.addi c0_i32_239 arg18
  let v904 : Index := Scalar.indexCast v891
  let c48_243 : Index := 48#32
  ![v904.toNat, 48]
@[reducible] def k1_t8_loop : Scf.Loop 32 :=
  let c0_i32_176 : BitVec 32 := 0#32
  let c50_i32_177 : BitVec 32 := 50#32
  let v644 : BitVec 32 := Scalar.addi c0_i32_176 c50_i32_177
  let c1_i32_178 : BitVec 32 := 1#32
  ⟨c0_i32_176, v644, c1_i32_178⟩
def k1_off46 (k1_t8 : Fin k1_t8_loop.trips) : Fin 2 → Nat :=
  let c50_i32_239 : BitVec 32 := 50#32
  let c0_i32_176 : BitVec 32 := 0#32
  let c1_i32_178 : BitVec 32 := 1#32
  let arg18 : BitVec 32 := Scf.iv c0_i32_176 c1_i32_178 k1_t8
  let v891 : BitVec 32 := Scalar.addi c50_i32_239 arg18
  let v892 : Index := Scalar.indexCast v891
  let c0_240 : Index := 0#32
  ![v892.toNat, 0]
def k1_off47 (k1_t8 : Fin k1_t8_loop.trips) : Fin 2 → Nat :=
  let c50_i32_239 : BitVec 32 := 50#32
  let c0_i32_176 : BitVec 32 := 0#32
  let c1_i32_178 : BitVec 32 := 1#32
  let arg18 : BitVec 32 := Scf.iv c0_i32_176 c1_i32_178 k1_t8
  let v891 : BitVec 32 := Scalar.addi c50_i32_239 arg18
  let v896 : Index := Scalar.indexCast v891
  let c16_241 : Index := 16#32
  ![v896.toNat, 16]
def k1_off48 (k1_t8 : Fin k1_t8_loop.trips) : Fin 2 → Nat :=
  let c50_i32_239 : BitVec 32 := 50#32
  let c0_i32_176 : BitVec 32 := 0#32
  let c1_i32_178 : BitVec 32 := 1#32
  let arg18 : BitVec 32 := Scf.iv c0_i32_176 c1_i32_178 k1_t8
  let v891 : BitVec 32 := Scalar.addi c50_i32_239 arg18
  let v900 : Index := Scalar.indexCast v891
  let c32_242 : Index := 32#32
  ![v900.toNat, 32]
def k1_off49 (k1_t8 : Fin k1_t8_loop.trips) : Fin 2 → Nat :=
  let c50_i32_239 : BitVec 32 := 50#32
  let c0_i32_176 : BitVec 32 := 0#32
  let c1_i32_178 : BitVec 32 := 1#32
  let arg18 : BitVec 32 := Scf.iv c0_i32_176 c1_i32_178 k1_t8
  let v891 : BitVec 32 := Scalar.addi c50_i32_239 arg18
  let v904 : Index := Scalar.indexCast v891
  let c48_243 : Index := 48#32
  ![v904.toNat, 48]
def k1_cond4 (k1_t2 : Fin k1_t2_loop.trips) : BitVec 1 :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c3_i32 : BitVec 32 := 3#32
  let v676 : BitVec 32 := Scalar.addi v30 c3_i32
  let c4_i32_186 : BitVec 32 := 4#32
  let v677 : BitVec 32 := Scalar.addi v676 c4_i32_186
  let c1_i32_187 : BitVec 32 := 1#32
  let v678 : BitVec 32 := Scalar.subi v677 c1_i32_187
  let c64_i32_188 : BitVec 32 := 64#32
  let v679 : BitVec 1 := Scalar.cmpi .slt v678 c64_i32_188
  let v680 : BitVec 32 := Scalar.extui v679
  let c0_i32_189 : BitVec 32 := 0#32
  let v681 : BitVec 1 := Scalar.cmpi .ne v680 c0_i32_189
  v681

def k1_off50 (k1_t2 : Fin k1_t2_loop.trips) : Fin 2 → Nat :=
  let c4_i32 : BitVec 32 := 4#32
  let c0_i32_21 : BitVec 32 := 0#32
  let c1_i32_22 : BitVec 32 := 1#32
  let arg17 : BitVec 32 := Scf.iv c0_i32_21 c1_i32_22 k1_t2
  let v30 : BitVec 32 := Scalar.muli c4_i32 arg17
  let c3_i32 : BitVec 32 := 3#32
  let v676 : BitVec 32 := Scalar.addi v30 c3_i32
  let c4_i32_186 : BitVec 32 := 4#32
  let v677 : BitVec 32 := Scalar.addi v676 c4_i32_186
  let c1_i32_187 : BitVec 32 := 1#32
  let v678 : BitVec 32 := Scalar.subi v677 c1_i32_187
  let c0_i32_239 : BitVec 32 := 0#32
  ![v678.toNat, 0]
@[reducible] def k1_t9_loop : Scf.Loop 32 :=
  let c0_i32_206 : BitVec 32 := 0#32
  let c50_i32_207 : BitVec 32 := 50#32
  let v756 : BitVec 32 := Scalar.addi c0_i32_206 c50_i32_207
  let c1_i32_208 : BitVec 32 := 1#32
  ⟨c0_i32_206, v756, c1_i32_208⟩
def k1_off51 (k1_t9 : Fin k1_t9_loop.trips) : Fin 2 → Nat :=
  let c0_i32_239 : BitVec 32 := 0#32
  let c0_i32_206 : BitVec 32 := 0#32
  let c1_i32_208 : BitVec 32 := 1#32
  let arg18 : BitVec 32 := Scf.iv c0_i32_206 c1_i32_208 k1_t9
  let v891 : BitVec 32 := Scalar.addi c0_i32_239 arg18
  let v892 : Index := Scalar.indexCast v891
  let c0_240 : Index := 0#32
  ![v892.toNat, 0]
def k1_off52 (k1_t9 : Fin k1_t9_loop.trips) : Fin 2 → Nat :=
  let c0_i32_239 : BitVec 32 := 0#32
  let c0_i32_206 : BitVec 32 := 0#32
  let c1_i32_208 : BitVec 32 := 1#32
  let arg18 : BitVec 32 := Scf.iv c0_i32_206 c1_i32_208 k1_t9
  let v891 : BitVec 32 := Scalar.addi c0_i32_239 arg18
  let v896 : Index := Scalar.indexCast v891
  let c16_241 : Index := 16#32
  ![v896.toNat, 16]
def k1_off53 (k1_t9 : Fin k1_t9_loop.trips) : Fin 2 → Nat :=
  let c0_i32_239 : BitVec 32 := 0#32
  let c0_i32_206 : BitVec 32 := 0#32
  let c1_i32_208 : BitVec 32 := 1#32
  let arg18 : BitVec 32 := Scf.iv c0_i32_206 c1_i32_208 k1_t9
  let v891 : BitVec 32 := Scalar.addi c0_i32_239 arg18
  let v900 : Index := Scalar.indexCast v891
  let c32_242 : Index := 32#32
  ![v900.toNat, 32]
def k1_off54 (k1_t9 : Fin k1_t9_loop.trips) : Fin 2 → Nat :=
  let c0_i32_239 : BitVec 32 := 0#32
  let c0_i32_206 : BitVec 32 := 0#32
  let c1_i32_208 : BitVec 32 := 1#32
  let arg18 : BitVec 32 := Scf.iv c0_i32_206 c1_i32_208 k1_t9
  let v891 : BitVec 32 := Scalar.addi c0_i32_239 arg18
  let v904 : Index := Scalar.indexCast v891
  let c48_243 : Index := 48#32
  ![v904.toNat, 48]
@[reducible] def k1_t10_loop : Scf.Loop 32 :=
  let c0_i32_229 : BitVec 32 := 0#32
  let c50_i32_230 : BitVec 32 := 50#32
  let v859 : BitVec 32 := Scalar.addi c0_i32_229 c50_i32_230
  let c1_i32_231 : BitVec 32 := 1#32
  ⟨c0_i32_229, v859, c1_i32_231⟩
def k1_off55 (k1_t10 : Fin k1_t10_loop.trips) : Fin 2 → Nat :=
  let c50_i32_239 : BitVec 32 := 50#32
  let c0_i32_229 : BitVec 32 := 0#32
  let c1_i32_231 : BitVec 32 := 1#32
  let arg18 : BitVec 32 := Scf.iv c0_i32_229 c1_i32_231 k1_t10
  let v891 : BitVec 32 := Scalar.addi c50_i32_239 arg18
  let v892 : Index := Scalar.indexCast v891
  let c0_240 : Index := 0#32
  ![v892.toNat, 0]
def k1_off56 (k1_t10 : Fin k1_t10_loop.trips) : Fin 2 → Nat :=
  let c50_i32_239 : BitVec 32 := 50#32
  let c0_i32_229 : BitVec 32 := 0#32
  let c1_i32_231 : BitVec 32 := 1#32
  let arg18 : BitVec 32 := Scf.iv c0_i32_229 c1_i32_231 k1_t10
  let v891 : BitVec 32 := Scalar.addi c50_i32_239 arg18
  let v896 : Index := Scalar.indexCast v891
  let c16_241 : Index := 16#32
  ![v896.toNat, 16]
def k1_off57 (k1_t10 : Fin k1_t10_loop.trips) : Fin 2 → Nat :=
  let c50_i32_239 : BitVec 32 := 50#32
  let c0_i32_229 : BitVec 32 := 0#32
  let c1_i32_231 : BitVec 32 := 1#32
  let arg18 : BitVec 32 := Scf.iv c0_i32_229 c1_i32_231 k1_t10
  let v891 : BitVec 32 := Scalar.addi c50_i32_239 arg18
  let v900 : Index := Scalar.indexCast v891
  let c32_242 : Index := 32#32
  ![v900.toNat, 32]
def k1_off58 (k1_t10 : Fin k1_t10_loop.trips) : Fin 2 → Nat :=
  let c50_i32_239 : BitVec 32 := 50#32
  let c0_i32_229 : BitVec 32 := 0#32
  let c1_i32_231 : BitVec 32 := 1#32
  let arg18 : BitVec 32 := Scf.iv c0_i32_229 c1_i32_231 k1_t10
  let v891 : BitVec 32 := Scalar.addi c50_i32_239 arg18
  let v904 : Index := Scalar.indexCast v891
  let c48_243 : Index := 48#32
  ![v904.toNat, 48]
def k1_off59 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_24 : BitVec 32 := 128#32
  let v29 : BitVec 32 := Scalar.muli v1 c128_i32_24
  let c0_i32_25_r2 : BitVec 32 := 0#32
  ![v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S1000000x64 : Shape := ⟨2, ![1000000, 64]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x1 : Shape := ⟨2, ![4096, 1]⟩
abbrev S4096x64 : Shape := ⟨2, ![4096, 64]⟩

abbrev nBuf : Space → Nat
  | .hbm => 41
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x64, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x64, .f32⟩
  | .hbm, ⟨21, _⟩ => ⟨S4096x50x64, .i1⟩
  | .hbm, ⟨22, _⟩ => ⟨S_, .f32⟩
  | .hbm, ⟨23, _⟩ => ⟨S4096x50x64, .f32⟩
  | .hbm, ⟨24, _⟩ => ⟨S4096x50x64, .f32⟩
  | .hbm, ⟨25, _⟩ => ⟨S_, .i32⟩
  | .hbm, ⟨26, _⟩ => ⟨S4096x50, .i32⟩
  | .hbm, ⟨27, _⟩ => ⟨S4096x50, .i1⟩
  | .hbm, ⟨28, _⟩ => ⟨S4096x50, .f32⟩
  | .hbm, ⟨29, _⟩ => ⟨S4096x50x1, .f32⟩
  | .hbm, ⟨30, _⟩ => ⟨S4096x50x64, .f32⟩
  | .hbm, ⟨31, _⟩ => ⟨S4096x50x64, .f32⟩
  | .hbm, ⟨32, _⟩ => ⟨S_, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩

abbrev nD : Nat := 1
abbrev τ : Topo := Topo.v7x

variable {F : FTy → Type} [FloatOps F]
-- ==== Proof.KernelIdeal.Struct.lean ====
/-
  One trip of the SparseCore kernel's main loop, regrouped.

  The printed trip is one long run of statements, cut into parts by count. Here it is written again by what it does: for each
  of the four gather buffers, start the gather three chunks ahead, wait for this buffer's gather, and average the two batch
  rows of the chunk. `trip_eq` says that the printed trip is this program.
-/
module

public import proofs.«01_k».proof.Proof.Gen.KernelIdeal.Skeleton

@[expose] public section

set_option synthInstance.maxSize 4096

noncomputable section

namespace Cert.Proof.KernelIdeal

open Cert.KernelIdeal Cert.KernelIdeal.Gen
open Idealize.ShloMosaic Idealize.SL.Sem

variable {F : FTy → Type} [FloatOps F]

/-! ## The values of a row -/

/-- Which of sixteen tokens are not padding. -/
def maskV (a : Vec F S1x16 .i32) : IVec S16 1 :=
  cmpi .ne (shapeCast S16 a shapeCasts_S1x16_S16) (broadcast S16 0#32)

/-- Per lane, how many of four groups of sixteen tokens are not padding. -/
def cntV (v4 v5 : IVec S16 32) (a b c d : Vec F S1x16 .i32) : IVec S16 32 :=
  addi (addi (addi (addi v5 (select (maskV (F := F) a) v4 v5)) (select (maskV (F := F) b) v4 v5)) (select (maskV (F := F) c) v4 v5))
    (select (maskV (F := F) d) v4 v5)

/-- The sum of the sixteen lanes, added in pairs. -/
def cntW (c : IVec S16 32) : BitVec 32 :=
  extractAt ![0]
    (addi (addi (addi (addi (extractStridedSlice S1 ![0] c slices_S16_o0_S1) (extractStridedSlice S1 ![1] c slices_S16_o1_S1))
                      (addi (extractStridedSlice S1 ![2] c slices_S16_o2_S1) (extractStridedSlice S1 ![3] c slices_S16_o3_S1)))
                (addi (addi (extractStridedSlice S1 ![4] c slices_S16_o4_S1) (extractStridedSlice S1 ![5] c slices_S16_o5_S1))
                      (addi (extractStridedSlice S1 ![6] c slices_S16_o6_S1) (extractStridedSlice S1 ![7] c slices_S16_o7_S1))))
          (addi (addi (addi (extractStridedSlice S1 ![8] c slices_S16_o8_S1) (extractStridedSlice S1 ![9] c slices_S16_o9_S1))
                      (addi (extractStridedSlice S1 ![10] c slices_S16_o10_S1) (extractStridedSlice S1 ![11] c slices_S16_o11_S1)))
                (addi (addi (extractStridedSlice S1 ![12] c slices_S16_o12_S1) (extractStridedSlice S1 ![13] c slices_S16_o13_S1))
                      (addi (extractStridedSlice S1 ![14] c slices_S16_o14_S1) (extractStridedSlice S1 ![15] c slices_S16_o15_S1)))))
    inpos_S1_p0

/-- The number of tokens that are not padding, in every lane. -/
def n1V (w : BitVec 32) : FVec F S16 .f32 := broadcast S16 (Scalar.sitofp .f32 w)

/-- One over that number, or over one where it is zero. -/
def recipV (w : BitVec 32) : FVec F S16 .f32 :=
  divf (broadcast S16 (Scalar.ofBits .f32 0x3F800000#32)) (maximumf (n1V w) (broadcast S16 (Scalar.ofBits .f32 0x3F800000#32)))

/-- The share of the padding in the mean. -/
def n0V (w : BitVec 32) : FVec F S16 .f32 :=
  mulf (subf (broadcast S16 (Scalar.ofBits .f32 0x42480000#32)) (n1V w)) (recipV w)

/-- What is stored: the mean of all gathered rows less the padding's share of table row 0. -/
def outP (acc : FVec F S16 .f32) (w : BitVec 32) (r0 : FVec F S16 .f32) : FVec F S1x16 .f32 :=
  shapeCast S1x16 (subf (mulf acc (recipV w)) (mulf (n0V w) r0)) shapeCasts_S16_S1x16

/-- One more gathered row added to sixteen columns' sum. -/
def addP (acc : FVec F S16 .f32) (x : Vec F S1x16 .f32) : FVec F S16 .f32 :=
  addf acc (shapeCast S16 x shapeCasts_S1x16_S16)

/-! ## The pieces of a trip -/

/-- The effects of a tile's program. -/
abbrev Eff (F : FTy → Type) (i : grid1.Coords) : Type → Type _ :=
  TpuEff nD τ sig (Elt F) Λ₀ (.scVector ((i 0).castLE hcore1) ((i 1).castLE hsub1))

/-- A counted loop over the gathered rows of one batch row, and the four places it reads in each trip. -/
structure Slots where
  l : Scf.Loop 32
  ok : l.OK
  o0 : Fin l.trips → Fin 2 → Nat
  o1 : Fin l.trips → Fin 2 → Nat
  o2 : Fin l.trips → Fin 2 → Nat
  o3 : Fin l.trips → Fin 2 → Nat
  h0 : ∀ t a, o0 t a + S1x16.size a ≤ S100x128.size a
  h1 : ∀ t a, o1 t a + S1x16.size a ≤ S100x128.size a
  h2 : ∀ t a, o2 t a + S1x16.size a ≤ S100x128.size a
  h3 : ∀ t a, o3 t a + S1x16.size a ≤ S100x128.size a

@[reducible] def slots3 : Slots := ⟨k1_t3_loop, k1_t3_ok, k1_off20, k1_off21, k1_off22, k1_off23, k1_off20_inb, k1_off21_inb, k1_off22_inb, k1_off23_inb⟩
@[reducible] def slots4 : Slots := ⟨k1_t4_loop, k1_t4_ok, k1_off28, k1_off29, k1_off30, k1_off31, k1_off28_inb, k1_off29_inb, k1_off30_inb, k1_off31_inb⟩
@[reducible] def slots5 : Slots := ⟨k1_t5_loop, k1_t5_ok, k1_off33, k1_off34, k1_off35, k1_off36, k1_off33_inb, k1_off34_inb, k1_off35_inb, k1_off36_inb⟩
@[reducible] def slots6 : Slots := ⟨k1_t6_loop, k1_t6_ok, k1_off37, k1_off38, k1_off39, k1_off40, k1_off37_inb, k1_off38_inb, k1_off39_inb, k1_off40_inb⟩
@[reducible] def slots7 : Slots := ⟨k1_t7_loop, k1_t7_ok, k1_off42, k1_off43, k1_off44, k1_off45, k1_off42_inb, k1_off43_inb, k1_off44_inb, k1_off45_inb⟩
@[reducible] def slots8 : Slots := ⟨k1_t8_loop, k1_t8_ok, k1_off46, k1_off47, k1_off48, k1_off49, k1_off46_inb, k1_off47_inb, k1_off48_inb, k1_off49_inb⟩
@[reducible] def slots9 : Slots := ⟨k1_t9_loop, k1_t9_ok, k1_off51, k1_off52, k1_off53, k1_off54, k1_off51_inb, k1_off52_inb, k1_off53_inb, k1_off54_inb⟩
@[reducible] def slots10 : Slots := ⟨k1_t10_loop, k1_t10_ok, k1_off55, k1_off56, k1_off57, k1_off58, k1_off55_inb, k1_off56_inb, k1_off57_inb, k1_off58_inb⟩

/-- Sixteen tokens of a batch row. -/
abbrev tokRect (o : Fin 2 → Nat) (h : ∀ a, o a + S1x16.size a ≤ S128x128.size a) : Rect S128x128 := Rect.unit (s := S128x128) o S1x16.size h
/-- Sixteen columns of a gathered row. -/
abbrev rowRect (o : Fin 2 → Nat) (h : ∀ a, o a + S1x16.size a ≤ S100x128.size a) : Rect S100x128 := Rect.unit (s := S100x128) o S1x16.size h
/-- Sixteen columns of an output row. -/
abbrev outRect (o : Fin 2 → Nat) (h : ∀ a, o a + S1x16.size a ≤ S128x64.size a) : Rect S128x64 := Rect.unit (s := S128x64) o S1x16.size h

/-- One gathered row added to the four sums. -/
def addProg (i : grid1.Coords) (rows : Memref sig .scVector .vmem S100x128 .f32) (s : Slots) :
    Fin s.l.trips → FVec F S16 .f32 × FVec F S16 .f32 × FVec F S16 .f32 × FVec F S16 .f32
      → Prog (Eff F i) (FVec F S16 .f32 × FVec F S16 .f32 × FVec F S16 .f32 × FVec F S16 .f32) :=
  fun t (a0, a1, a2, a3) => do
    let x0 : Vec F S1x16 .f32 ← Prog.lift (.load rows (rowRect (s.o0 t) (s.h0 t)).toLoadRect (View.loadsAt_vmem h_S1x16))
    let x1 : Vec F S1x16 .f32 ← Prog.lift (.load rows (rowRect (s.o1 t) (s.h1 t)).toLoadRect (View.loadsAt_vmem h_S1x16))
    let x2 : Vec F S1x16 .f32 ← Prog.lift (.load rows (rowRect (s.o2 t) (s.h2 t)).toLoadRect (View.loadsAt_vmem h_S1x16))
    let x3 : Vec F S1x16 .f32 ← Prog.lift (.load rows (rowRect (s.o3 t) (s.h3 t)).toLoadRect (View.loadsAt_vmem h_S1x16))
    pure (addP a0 x0, addP a1 x1, addP a2 x2, addP a3 x3)

/-- One load and one store of sixteen output columns. -/
def putProg (i : grid1.Coords) (out : Memref sig .scVector .vmem S128x64 .f32) (o : Fin 2 → Nat)
    (h : ∀ a, o a + S1x16.size a ≤ S128x64.size a) (v : FVec F S1x16 .f32) : Prog (Eff F i) PUnit := do
  let _ : Vec F S1x16 .f32 ← Prog.lift (.load out (outRect o h).toLoadRect (View.loadsAt_vmem h_S1x16))
  Prog.lift (.store out (outRect o h) v Finset.univ (View.stores_vmem_bits_univ h_S1x16 rfl) (.inl rfl))

/-- One batch row: count its tokens, add its gathered rows, store the mean. -/
def rowProg (i : grid1.Coords) (toks : Memref sig .scVector .vmem S128x128 .i32) (rows : Memref sig .scVector .vmem S100x128 .f32)
    (out : Memref sig .scVector .vmem S128x64 .f32) (v4 v5 : IVec S16 32) (v6 r0 r1 r2 r3 : FVec F S16 .f32)
    (t : Fin k1_t2_loop.trips) (j : Fin 4) (r : Fin 2) (s : Slots) : Prog (Eff F i) PUnit := do
  let a : Vec F S1x16 .i32 ← Prog.lift (.load toks (tokRect (k1_off16 t (BitVec.ofNat 32 j.val) (BitVec.ofNat 32 r.val)) (k1_off16_inb t j r)).toLoadRect (View.loadsAt_vmem h_S1x16))
  let b : Vec F S1x16 .i32 ← Prog.lift (.load toks (tokRect (k1_off17 t (BitVec.ofNat 32 j.val) (BitVec.ofNat 32 r.val)) (k1_off17_inb t j r)).toLoadRect (View.loadsAt_vmem h_S1x16))
  let c : Vec F S1x16 .i32 ← Prog.lift (.load toks (tokRect (k1_off18 t (BitVec.ofNat 32 j.val) (BitVec.ofNat 32 r.val)) (k1_off18_inb t j r)).toLoadRect (View.loadsAt_vmem h_S1x16))
  let d : Vec F S1x16 .i32 ← Prog.lift (.load toks (tokRect (k1_off19 t (BitVec.ofNat 32 j.val) (BitVec.ofNat 32 r.val)) (k1_off19_inb t j r)).toLoadRect (View.loadsAt_vmem h_S1x16))
  let (a0, a1, a2, a3) ← Scf.Loop.for s.l s.ok (v6, v6, v6, v6) (addProg i rows s)
  putProg i out (k1_off24 t (BitVec.ofNat 32 j.val) (BitVec.ofNat 32 r.val)) (k1_off24_inb t j r) (outP a0 (cntW (cntV (F := F) v4 v5 a b c d)) r0)
  putProg i out (k1_off25 t (BitVec.ofNat 32 j.val) (BitVec.ofNat 32 r.val)) (k1_off25_inb t j r) (outP a1 (cntW (cntV (F := F) v4 v5 a b c d)) r1)
  putProg i out (k1_off26 t (BitVec.ofNat 32 j.val) (BitVec.ofNat 32 r.val)) (k1_off26_inb t j r) (outP a2 (cntW (cntV (F := F) v4 v5 a b c d)) r2)
  putProg i out (k1_off27 t (BitVec.ofNat 32 j.val) (BitVec.ofNat 32 r.val)) (k1_off27_inb t j r) (outP a3 (cntW (cntV (F := F) v4 v5 a b c d)) r3)

/-- The whole table, as a gather and its wait name it. -/
abbrev tabV (tab : Memref sig .scVector .hbm S1000000x128 .f32) : Memref sig .scVector .hbm S1000000x128 .f32 :=
  tab.slice (Rect.unit (s := S1000000x128) ![0, 0] S1000000x128.size inb_S1000000x128_S1000000x128_0_0) (fun _ => rfl)

/-- One row of the repacked tokens: a chunk's offset list. -/
abbrev idxRow (idx : Memref sig .scVector .vmem S64x100 .i32) (o : Fin 2 → Nat) (h : ∀ a, o a + S1x100.size a ≤ S64x100.size a) :
    Memref sig .scVector .vmem S100 .i32 :=
  (idx.slice (Rect.unit (s := S64x100) o S1x100.size h) (fun _ => rfl)).squeeze S100 squeezes_S1x100_S100

/-- Start the gather of one chunk. -/
def gatherProg (i : grid1.Coords) (tab : Memref sig .scVector .hbm S1000000x128 .f32) (idx : Memref sig .scVector .vmem S64x100 .i32)
    (rows : Memref sig .scVector .vmem S100x128 .f32) (sem : DmaSems sig S_) (o : Fin 2 → Nat) (h : ∀ a, o a + S1x100.size a ≤ S64x100.size a) :
    Prog (Eff F i) PUnit :=
  SparseCore.enqueueIndirectGather rfl (tabV tab) rows gathers_S1000000x128_S100x128 (idxRow idx o h) rfl sem.sem (View.wordExact_bits rfl) rfl (Or.inl rfl)

/-- Start the gather of the chunk three ahead, where there is one. -/
def nextProg (i : grid1.Coords) (tab : Memref sig .scVector .hbm S1000000x128 .f32) (idx : Memref sig .scVector .vmem S64x100 .i32)
    (rows : Memref sig .scVector .vmem S100x128 .f32) (sem : DmaSems sig S_) (c : BitVec 1) (o : Fin 2 → Nat)
    (h : c = 1#1 → ∀ a, o a + S1x100.size a ≤ S64x100.size a) : Prog (Eff F i) Unit :=
  if hc : c = 1#1 then do
    gatherProg i tab idx rows sem o (h hc)
    pure ⟨⟩
  else pure ⟨⟩

/-- One trip: four chunks, each of two batch rows. -/
def tripProg (i : grid1.Coords) (tab : Memref sig .scVector .hbm S1000000x128 .f32) (toks : Memref sig .scVector .vmem S128x128 .i32)
    (idx : Memref sig .scVector .vmem S64x100 .i32) (b0 b1 b2 b3 : Memref sig .scVector .vmem S100x128 .f32)
    (hb0 : b0.IsWhole) (hb1 : b1.IsWhole) (hb2 : b2.IsWhole) (hb3 : b3.IsWhole)
    (out : Memref sig .scVector .vmem S128x64 .f32) (s0 s1 s2 s3 : DmaSems sig S_)
    (v4 v5 : IVec S16 32) (v6 r0 r1 r2 r3 : FVec F S16 .f32) (t : Fin k1_t2_loop.trips) : Prog (Eff F i) Unit := do
  nextProg i tab idx b3 s3 (k1_cond1 t) (k1_off14 t) (k1_off14_inb t)
  SparseCore.waitIndirectGather s0.sem (tabV tab) b0 (View.wordExact_bits rfl) hb0.wordExact
  rowProg i toks b0 out v4 v5 v6 r0 r1 r2 r3 t 0 0 slots3
  rowProg i toks b0 out v4 v5 v6 r0 r1 r2 r3 t 0 1 slots4
  nextProg i tab idx b0 s0 (k1_cond2 t) (k1_off32 t) (k1_off32_inb t)
  SparseCore.waitIndirectGather s1.sem (tabV tab) b1 (View.wordExact_bits rfl) hb1.wordExact
  rowProg i toks b1 out v4 v5 v6 r0 r1 r2 r3 t 1 0 slots5
  rowProg i toks b1 out v4 v5 v6 r0 r1 r2 r3 t 1 1 slots6
  nextProg i tab idx b1 s1 (k1_cond3 t) (k1_off41 t) (k1_off41_inb t)
  SparseCore.waitIndirectGather s2.sem (tabV tab) b2 (View.wordExact_bits rfl) hb2.wordExact
  rowProg i toks b2 out v4 v5 v6 r0 r1 r2 r3 t 2 0 slots7
  rowProg i toks b2 out v4 v5 v6 r0 r1 r2 r3 t 2 1 slots8
  nextProg i tab idx b2 s2 (k1_cond4 t) (k1_off50 t) (k1_off50_inb t)
  SparseCore.waitIndirectGather s3.sem (tabV tab) b3 (View.wordExact_bits rfl) hb3.wordExact
  rowProg i toks b3 out v4 v5 v6 r0 r1 r2 r3 t 3 0 slots9
  rowProg i toks b3 out v4 v5 v6 r0 r1 r2 r3 t 3 1 slots10
  pure ⟨⟩

/-- The first gather of a trip is always started: its chunk is there. -/
theorem cond1_true : ∀ t : Fin k1_t2_loop.trips, k1_cond1 t = 1#1 := by decide +kernel
/-- The other three are started in every trip but the last. -/
theorem cond2_iff : ∀ t : Fin k1_t2_loop.trips, k1_cond2 t = 1#1 ↔ t.val < 15 := by decide +kernel
theorem cond3_iff : ∀ t : Fin k1_t2_loop.trips, k1_cond3 t = 1#1 ↔ k1_cond2 t = 1#1 := by decide +kernel
theorem cond4_iff : ∀ t : Fin k1_t2_loop.trips, k1_cond4 t = 1#1 ↔ k1_cond2 t = 1#1 := by decide +kernel

set_option maxRecDepth 65536 in
set_option maxHeartbeats 4000000 in
/-- The printed trip is the regrouped one. -/
theorem trip_eq (i : grid1.Coords) (arg2 : Memref sig .scVector .hbm S4096x128 .i32) (harg2 : arg2.IsWhole) (arg3 : Memref sig .scVector .hbm S1000000x128 .f32) (harg3 : arg3.IsWhole) (arg4 : Memref sig .scVector .hbm S4096x64 .f32) (harg4 : arg4.IsWhole) (arg5 : Memref sig .scVector .vmem S128x128 .i32) (harg5 : arg5.IsWhole) (arg6 : Memref sig .scVector .vmem S64x100 .i32) (harg6 : arg6.IsWhole) (arg7 : Memref sig .scVector .vmem S100x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S1x128 .f32) (harg11 : arg11.IsWhole) (arg12 : Memref sig .scVector .vmem S128x64 .f32) (harg12 : arg12.IsWhole) (arg13 : DmaSems sig S_) (arg14 : DmaSems sig S_) (arg15 : DmaSems sig S_) (arg16 : DmaSems sig S_) (v30_r0 : DmaSems sig S_) (v30_r1 : DmaSems sig S_) (v30_r2 : DmaSems sig S_) (v4 : IVec S16 32) (v5 : IVec S16 32) (v6 : FVec F S16 .f32) (v9 : FVec F S16 .f32) (v12 : FVec F S16 .f32) (v15 : FVec F S16 .f32) (v17 : Vec F S1x16 .f32)
    (t : Fin k1_t2_loop.trips) (u : Unit) :
    k1_t2_body i arg2 harg2 arg3 harg3 arg4 harg4 arg5 harg5 arg6 harg6 arg7 harg7 arg8 harg8 arg9 harg9 arg10 harg10 arg11 harg11 arg12 harg12 arg13 arg14 arg15 arg16 v30_r0 v30_r1 v30_r2 v4 v5 v6 v9 v12 v15 v17 t u
      = tripProg i arg3 arg5 arg6 arg7 arg8 arg9 arg10 harg7 harg8 harg9 harg10 arg12 arg13 arg14 arg15 arg16 v4 v5 v6 v9 v12 v15 (shapeCast S16 v17 shapeCasts_S1x16_S16) t := by
  have h1 := cond1_true t
  by_cases h2 : k1_cond2 t = 1#1
  · have h3 := (cond3_iff t).mpr h2
    have h4 := (cond4_iff t).mpr h2
    unfold k1_t2_body tripProg rowProg
    simp only [k1_part2_eq_skeleton, k1_part3_eq_skeleton, k1_part4_eq_skeleton, k1_part5_eq_skeleton, k1_part6_eq_skeleton, k1_part7_eq_skeleton,
    k1_part8_eq_skeleton, k1_part9_eq_skeleton, k1_part10_eq_skeleton, k1_part11_eq_skeleton, k1_part12_eq_skeleton, k1_part13_eq_skeleton,
    k1_part14_eq_skeleton, k1_part15_eq_skeleton, k1_part16_eq_skeleton, k1_part17_eq_skeleton, k1_part18_eq_skeleton, k1_part19_eq_skeleton,
    k1_part2_skel, k1_part3_skel, k1_part4_skel, k1_part5_skel, k1_part6_skel, k1_part7_skel, k1_part8_skel, k1_part9_skel, k1_part10_skel,
    k1_part11_skel, k1_part12_skel, k1_part13_skel, k1_part14_skel, k1_part15_skel, k1_part16_skel, k1_part17_skel, k1_part18_skel, k1_part19_skel,
    putProg, bind_assoc, pure_bind, nextProg, dif_pos h1, dif_pos h2, dif_pos h3, dif_pos h4]
    rfl
  · have h3 := fun h => h2 ((cond3_iff t).mp h)
    have h4 := fun h => h2 ((cond4_iff t).mp h)
    unfold k1_t2_body tripProg rowProg
    simp only [k1_part2_eq_skeleton, k1_part3_eq_skeleton, k1_part4_eq_skeleton, k1_part5_eq_skeleton, k1_part6_eq_skeleton, k1_part7_eq_skeleton,
    k1_part8_eq_skeleton, k1_part9_eq_skeleton, k1_part10_eq_skeleton, k1_part11_eq_skeleton, k1_part12_eq_skeleton, k1_part13_eq_skeleton,
    k1_part14_eq_skeleton, k1_part15_eq_skeleton, k1_part16_eq_skeleton, k1_part17_eq_skeleton, k1_part18_eq_skeleton, k1_part19_eq_skeleton,
    k1_part2_skel, k1_part3_skel, k1_part4_skel, k1_part5_skel, k1_part6_skel, k1_part7_skel, k1_part8_skel, k1_part9_skel, k1_part10_skel,
    k1_part11_skel, k1_part12_skel, k1_part13_skel, k1_part14_skel, k1_part15_skel, k1_part16_skel, k1_part17_skel, k1_part18_skel, k1_part19_skel,
    putProg, bind_assoc, pure_bind, nextProg, dif_pos h1, dif_neg h2, dif_neg h3, dif_neg h4]
    rfl

end Cert.Proof.KernelIdeal
-- ==== Proof.KernelIdeal.Setup.lean ====
/-
  The launch as the proof sees it (its names, its resource algebra, its buffers) and what a tile computes, row by row.
-/
module

public import proofs.«01_k».proof.Proof.KernelIdeal.Struct
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the handshake's semaphores and of the shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## Places -/

abbrev cV (i : grid1.Coords) : Fin τ.nSC := (i 0).castLE hcore1
abbrev jV (i : grid1.Coords) : Fin τ.nSub := (i 1).castLE hsub1
/-- The tile at coordinates `i` of device `d`. -/
abbrev thr (d : Dev nD) (i : grid1.Coords) : Thread nD τ := V d (cV i) (jV i)

def ixR (r c : ℕ) : S100x128.Idx := fun
  | 0 => ⟨r % 100, Nat.mod_lt _ (by decide)⟩
  | 1 => ⟨c % 128, Nat.mod_lt _ (by decide)⟩
def ixT (r c : ℕ) : S128x128.Idx := fun
  | 0 => ⟨r % 128, Nat.mod_lt _ (by decide)⟩
  | 1 => ⟨c % 128, Nat.mod_lt _ (by decide)⟩
def ixP (r c : ℕ) : S1000000x128.Idx := fun
  | 0 => ⟨r % 1000000, Nat.mod_lt _ (by decide)⟩
  | 1 => ⟨c % 128, Nat.mod_lt _ (by decide)⟩
def ixI (r c : ℕ) : S64x100.Idx := fun
  | 0 => ⟨r % 64, Nat.mod_lt _ (by decide)⟩
  | 1 => ⟨c % 100, Nat.mod_lt _ (by decide)⟩
def ixV (c : ℕ) : S1x16.Idx := fun
  | 0 => ⟨0, by decide⟩
  | 1 => ⟨c % 16, Nat.mod_lt _ (by decide)⟩

/-! ## Values -/

variable [FloatOps F]

/-- Ones, zeros, and zero sums, per lane. -/
abbrev v4c : IVec S16 32 := broadcast S16 1#32
abbrev v5c : IVec S16 32 := broadcast S16 0#32
abbrev v6c : FVec F S16 .f32 := broadcast S16 (Scalar.ofBits .f32 0x00000000#32)

/-- Sixteen columns of a gathered row. -/
def rowVec (R : S100x128.Idx → Elt F .f32) (r k : ℕ) : Vec F S1x16 .f32 := fun y => R (ixR r (16 * k + (y (1 : Fin 2)).val))
/-- Sixteen tokens of a batch row. -/
def tokVec (Tk : S128x128.Idx → Elt F .i32) (b k : ℕ) : Vec F S1x16 .i32 := fun y => Tk (ixT b (16 * k + (y (1 : Fin 2)).val))
/-- Sixteen columns of a table row. -/
def tabVec (TP : S1000000x128.Idx → Elt F .f32) (r k : ℕ) : Vec F S1x16 .f32 := fun y => TP (ixP r (16 * k + (y (1 : Fin 2)).val))

/-- The sum of the first `n` gathered rows from `base`, sixteen columns. -/
def accR (v6 : FVec F S16 .f32) (R : S100x128.Idx → Elt F .f32) (base k : ℕ) : ℕ → FVec F S16 .f32
  | 0 => v6
  | n + 1 => addP (accR v6 R base k n) (rowVec R (n + base) k)

/-- The sum of the table rows the first `n` tokens of a batch row name, sixteen columns. -/
def accT (TP : S1000000x128.Idx → Elt F .f32) (Tk : S128x128.Idx → Elt F .i32) (b k : ℕ) : ℕ → FVec F S16 .f32
  | 0 => v6c
  | n + 1 => addP (accT TP Tk b k n) (tabVec TP (Tk (ixT b n)).toNat k)

/-- How many tokens of a batch row are not padding. -/
def cntT (Tk : S128x128.Idx → Elt F .i32) (b : ℕ) : BitVec 32 :=
  cntW (cntV (F := F) v4c v5c (tokVec Tk b 0) (tokVec Tk b 1) (tokVec Tk b 2) (tokVec Tk b 3))

/-- Table row 0, sixteen columns. -/
def row0 (TP : S1000000x128.Idx → Elt F .f32) (k : ℕ) : FVec F S16 .f32 := shapeCast S16 (tabVec TP 0 k) shapeCasts_S1x16_S16

/-- What a tile leaves at row `b`, column `c` of its output block. -/
def oT (TP : S1000000x128.Idx → Elt F .f32) (Tk : S128x128.Idx → Elt F .i32) (b c : ℕ) : Elt F .f32 :=
  outP (accT TP Tk b (c / 16) 50) (cntT Tk b) (row0 TP (c / 16)) (ixV c)

/-- The gathered rows are the table rows the tokens name, so the two sums are one. -/
theorem accR_eq (TP : S1000000x128.Idx → Elt F .f32) (Tk : S128x128.Idx → Elt F .i32) (R : S100x128.Idx → Elt F .f32) (base b k : ℕ)
    (h : ∀ n < 50, ∀ c, R (ixR (n + base) c) = TP (ixP (Tk (ixT b n)).toNat c)) (n : ℕ) (hn : n ≤ 50) :
    accR v6c R base k n = accT TP Tk b k n := by
  induction n with
  | zero => rfl
  | succ n ih =>
    rw [accR, accT, ih (by omega)]
    congr 1
    funext y
    exact h n (by omega) _

end Cert.Proof.KernelIdeal
-- ==== Proof.KernelIdeal.Row.lean ====
/-
  One batch row: its four token loads, the loop over its fifty gathered rows, and its four stores.
-/
module

public import proofs.«01_k».proof.Proof.KernelIdeal.Setup
public import Idealize.ShloMosaic.Lib.WritesUnit

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Where the accesses fall -/

omit [FloatOps F] in
theorem rows_read (m : Memref sig .scVector .vmem S100x128 .f32) (f : m.view.ty.Contents (Elt F)) (o : Fin 2 → ℕ)
    (h : ∀ a, o a + S1x16.size a ≤ S100x128.size a) (r k : ℕ) (ho : o = ![r, 16 * k]) :
    m.view.readAt (Elt F) (rowRect o h).toLoadRect f = rowVec (m.view.read (Elt F) f) r k := by
  subst ho
  have h0 := h 0
  have h1 := h 1
  funext y
  rw [View.readAt_apply, rowVec]
  congr 1
  funext a
  have hy0 := (y (0 : Fin 2)).isLt
  have hy1 := (y (1 : Fin 2)).isLt
  match a with
  | 0 =>
    apply Fin.ext
    change r + 1 * (y (0 : Fin 2)).val = r % 100
    change r + 1 ≤ 100 at h0
    change (y (0 : Fin 2)).val < 1 at hy0
    omega
  | 1 =>
    apply Fin.ext
    change 16 * k + 1 * (y (1 : Fin 2)).val = (16 * k + (y (1 : Fin 2)).val) % 128
    change 16 * k + 16 ≤ 128 at h1
    change (y (1 : Fin 2)).val < 16 at hy1
    omega

omit [FloatOps F] in
theorem toks_read (m : Memref sig .scVector .vmem S128x128 .i32) (f : m.view.ty.Contents (Elt F)) (o : Fin 2 → ℕ)
    (h : ∀ a, o a + S1x16.size a ≤ S128x128.size a) (r k : ℕ) (ho : o = ![r, 16 * k]) :
    m.view.readAt (Elt F) (tokRect o h).toLoadRect f = tokVec (m.view.read (Elt F) f) r k := by
  subst ho
  have h0 := h 0
  have h1 := h 1
  funext y
  rw [View.readAt_apply, tokVec]
  congr 1
  funext a
  have hy0 := (y (0 : Fin 2)).isLt
  have hy1 := (y (1 : Fin 2)).isLt
  match a with
  | 0 =>
    apply Fin.ext
    change r + 1 * (y (0 : Fin 2)).val = r % 128
    change r + 1 ≤ 128 at h0
    change (y (0 : Fin 2)).val < 1 at hy0
    omega
  | 1 =>
    apply Fin.ext
    change 16 * k + 1 * (y (1 : Fin 2)).val = (16 * k + (y (1 : Fin 2)).val) % 128
    change 16 * k + 16 ≤ 128 at h1
    change (y (1 : Fin 2)).val < 16 at hy1
    omega

/-- Four stores of sixteen columns side by side fill one output row and leave the others. -/
theorem put_read (m : Memref sig .scVector .vmem S128x64 .f32) (f : m.view.ty.Contents (Elt F)) (b : ℕ)
    (o0 o1 o2 o3 : Fin 2 → ℕ) (h0 : ∀ a, o0 a + S1x16.size a ≤ S128x64.size a) (h1 : ∀ a, o1 a + S1x16.size a ≤ S128x64.size a)
    (h2 : ∀ a, o2 a + S1x16.size a ≤ S128x64.size a) (h3 : ∀ a, o3 a + S1x16.size a ≤ S128x64.size a)
    (e0 : o0 = ![b, 0]) (e1 : o1 = ![b, 16]) (e2 : o2 = ![b, 32]) (e3 : o3 = ![b, 48])
    (G : ℕ → ℕ → FVec F S1x16 .f32) (w : ℕ) (x : S128x64.Idx) :
    m.view.read (Elt F) (m.view.writes (Elt F) f [⟨outRect o3 h3, G w 3⟩, ⟨outRect o2 h2, G w 2⟩, ⟨outRect o1 h1, G w 1⟩, ⟨outRect o0 h0, G w 0⟩]) x
      = if (x (0 : Fin 2)).val = b then G w ((x (1 : Fin 2)).val / 16) (ixV (x (1 : Fin 2)).val) else m.view.read (Elt F) f x := by
  have hx1 : (x (1 : Fin 2)).val < 64 := (x (1 : Fin 2)).isLt
  by_cases hb : (x (0 : Fin 2)).val = b
  · rw [if_pos hb]
    obtain hk | hk | hk | hk : (x (1 : Fin 2)).val / 16 = 3 ∨ (x (1 : Fin 2)).val / 16 = 2 ∨ (x (1 : Fin 2)).val / 16 = 1 ∨ (x (1 : Fin 2)).val / 16 = 0 := by omega
    · rw [hk]
      exact View.read_writes_cons_unit_of_mem m.view f h3 (G w 3) _ x (ixV (x (1 : Fin 2)).val) e3
        (Fin.forall_fin_two.mpr ⟨hb, show (x (1 : Fin 2)).val = 48 + (x (1 : Fin 2)).val % 16 by omega⟩)
    · rw [hk, View.read_writes_cons_unit_of_not_mem m.view f h3 (G w 3) _ x e3 (1 : Fin 2)
        (show (x (1 : Fin 2)).val < 48 ∨ 48 + 16 ≤ (x (1 : Fin 2)).val by omega)]
      exact View.read_writes_cons_unit_of_mem m.view f h2 (G w 2) _ x (ixV (x (1 : Fin 2)).val) e2
        (Fin.forall_fin_two.mpr ⟨hb, show (x (1 : Fin 2)).val = 32 + (x (1 : Fin 2)).val % 16 by omega⟩)
    · rw [hk, View.read_writes_cons_unit_of_not_mem m.view f h3 (G w 3) _ x e3 (1 : Fin 2)
        (show (x (1 : Fin 2)).val < 48 ∨ 48 + 16 ≤ (x (1 : Fin 2)).val by omega),
        View.read_writes_cons_unit_of_not_mem m.view f h2 (G w 2) _ x e2 (1 : Fin 2)
        (show (x (1 : Fin 2)).val < 32 ∨ 32 + 16 ≤ (x (1 : Fin 2)).val by omega)]
      exact View.read_writes_cons_unit_of_mem m.view f h1 (G w 1) _ x (ixV (x (1 : Fin 2)).val) e1
        (Fin.forall_fin_two.mpr ⟨hb, show (x (1 : Fin 2)).val = 16 + (x (1 : Fin 2)).val % 16 by omega⟩)
    · rw [hk, View.read_writes_cons_unit_of_not_mem m.view f h3 (G w 3) _ x e3 (1 : Fin 2)
        (show (x (1 : Fin 2)).val < 48 ∨ 48 + 16 ≤ (x (1 : Fin 2)).val by omega),
        View.read_writes_cons_unit_of_not_mem m.view f h2 (G w 2) _ x e2 (1 : Fin 2)
        (show (x (1 : Fin 2)).val < 32 ∨ 32 + 16 ≤ (x (1 : Fin 2)).val by omega),
        View.read_writes_cons_unit_of_not_mem m.view f h1 (G w 1) _ x e1 (1 : Fin 2)
        (show (x (1 : Fin 2)).val < 16 ∨ 16 + 16 ≤ (x (1 : Fin 2)).val by omega)]
      exact View.read_writes_cons_unit_of_mem m.view f h0 (G w 0) _ x (ixV (x (1 : Fin 2)).val) e0
        (Fin.forall_fin_two.mpr ⟨hb, show (x (1 : Fin 2)).val = 0 + (x (1 : Fin 2)).val % 16 by omega⟩)
  · rw [if_neg hb, View.read_writes_cons_unit_of_not_mem m.view f h3 (G w 3) _ x e3 (0 : Fin 2)
        (show (x (0 : Fin 2)).val < b ∨ b + 1 ≤ (x (0 : Fin 2)).val by omega),
        View.read_writes_cons_unit_of_not_mem m.view f h2 (G w 2) _ x e2 (0 : Fin 2)
        (show (x (0 : Fin 2)).val < b ∨ b + 1 ≤ (x (0 : Fin 2)).val by omega),
        View.read_writes_cons_unit_of_not_mem m.view f h1 (G w 1) _ x e1 (0 : Fin 2)
        (show (x (0 : Fin 2)).val < b ∨ b + 1 ≤ (x (0 : Fin 2)).val by omega),
        View.read_writes_cons_unit_of_not_mem m.view f h0 (G w 0) _ x e0 (0 : Fin 2)
        (show (x (0 : Fin 2)).val < b ∨ b + 1 ≤ (x (0 : Fin 2)).val by omega)]
    rfl

/-! ## The loop over the gathered rows -/

/-- The loop reads rows `base`, `base + 1`, … at the four column groups. -/
structure Slots.At (s : Slots) (base : ℕ) : Prop where
  n : s.l.trips = 50
  e0 : ∀ t, s.o0 t = ![t.val + base, 16 * 0]
  e1 : ∀ t, s.o1 t = ![t.val + base, 16 * 1]
  e2 : ∀ t, s.o2 t = ![t.val + base, 16 * 2]
  e3 : ∀ t, s.o3 t = ![t.val + base, 16 * 3]

theorem at3 : slots3.At 0 := ⟨by decide +kernel, k1_off20_eq, k1_off21_eq, k1_off22_eq, k1_off23_eq⟩
theorem at4 : slots4.At 50 := ⟨by decide +kernel, k1_off28_eq, k1_off29_eq, k1_off30_eq, k1_off31_eq⟩
theorem at5 : slots5.At 0 := ⟨by decide +kernel, k1_off33_eq, k1_off34_eq, k1_off35_eq, k1_off36_eq⟩
theorem at6 : slots6.At 50 := ⟨by decide +kernel, k1_off37_eq, k1_off38_eq, k1_off39_eq, k1_off40_eq⟩
theorem at7 : slots7.At 0 := ⟨by decide +kernel, k1_off42_eq, k1_off43_eq, k1_off44_eq, k1_off45_eq⟩
theorem at8 : slots8.At 50 := ⟨by decide +kernel, k1_off46_eq, k1_off47_eq, k1_off48_eq, k1_off49_eq⟩
theorem at9 : slots9.At 0 := ⟨by decide +kernel, k1_off51_eq, k1_off52_eq, k1_off53_eq, k1_off54_eq⟩
theorem at10 : slots10.At 50 := ⟨by decide +kernel, k1_off55_eq, k1_off56_eq, k1_off57_eq, k1_off58_eq⟩

section Row

variable (d : Dev nD) (i : grid1.Coords)

/-- The four sums after `n` trips. -/
def accs (v6 : FVec F S16 .f32) (R : S100x128.Idx → Elt F .f32) (base n : ℕ) : FVec F S16 .f32 × FVec F S16 .f32 × FVec F S16 .f32 × FVec F S16 .f32 :=
  (accR v6 R base 0 n, accR v6 R base 1 n, accR v6 R base 2 n, accR v6 R base 3 n)

/-- The loop over the gathered rows of one batch row leaves their sums. -/
theorem wp_add (rows : Memref sig .scVector .vmem S100x128 .f32) (s : Slots) (base : ℕ) (hs : s.At base) (v6 : FVec F S16 .f32)
    (fr : Buf (Elt F) (rows.view.loc (thr d i))) {β : Type}
    (kk : FVec F S16 .f32 × FVec F S16 .f32 × FVec F S16 .f32 × FVec F S16 .f32 → Prog (Eff F i) β) (Q : β → sProp 𝕄) :
    (rows.view.loc (thr d i) ↦{fullShare} fr : sProp 𝕄)
      ⊢ iprop(((rows.view.loc (thr d i) ↦{fullShare} fr) -∗
          wp frame (wpE (defs₀ (F := F)) 𝒱₀ (thr d i) none) Set.univ (kk (accs v6 (rows.view.read (Elt F) fr) base 50)) Q)
        -∗ wp frame (wpE (defs₀ (F := F)) 𝒱₀ (thr d i) none) Set.univ (Scf.Loop.for s.l s.ok (v6, v6, v6, v6) (addProg i rows s) >>= kk) Q) := by
  have hbody : ∀ (k : Fin s.l.trips) (acc : FVec F S16 .f32 × FVec F S16 .f32 × FVec F S16 .f32 × FVec F S16 .f32),
      iprop(⌜acc = accs v6 (rows.view.read (Elt F) fr) base k.val⌝ ∗ (rows.view.loc (thr d i) ↦{fullShare} fr : sProp 𝕄))
        ⊢ wp frame (wpE (defs₀ (F := F)) 𝒱₀ (thr d i) none) Set.univ (addProg i rows s k acc)
          (fun acc' => iprop(⌜acc' = accs v6 (rows.view.read (Elt F) fr) base (k.val + 1)⌝ ∗ (rows.view.loc (thr d i) ↦{fullShare} fr : sProp 𝕄))) := by
    intro k acc
    iintro ⟨%hacc, H⟩
    subst hacc
    simp only [addProg, accs, Prog.bind_lift]
    iapply (wp_load (defs := defs₀ (F := F)) 𝒱₀ (thr d i) none Set.univ (m := rows) (Finset.subset_univ _)) $$ H
    iintro H
    iapply (wp_load (defs := defs₀ (F := F)) 𝒱₀ (thr d i) none Set.univ (m := rows) (Finset.subset_univ _)) $$ H
    iintro H
    iapply (wp_load (defs := defs₀ (F := F)) 𝒱₀ (thr d i) none Set.univ (m := rows) (Finset.subset_univ _)) $$ H
    iintro H
    iapply (wp_load (defs := defs₀ (F := F)) 𝒱₀ (thr d i) none Set.univ (m := rows) (Finset.subset_univ _)) $$ H
    iintro H
    rw [rows_read rows fr _ (s.h0 k) _ _ (hs.e0 k), rows_read rows fr _ (s.h1 k) _ _ (hs.e1 k), rows_read rows fr _ (s.h2 k) _ _ (hs.e2 k),
      rows_read rows fr _ (s.h3 k) _ _ (hs.e3 k)]
    rw [wp_pure]
    imodintro
    isplitr
    · ipureintro; rfl
    · iexact H
  iintro H HK
  iapply (Scf.wp_for_bind frame (wpE (defs₀ (F := F)) 𝒱₀ (thr d i) none) Set.univ s.l.lb s.l.ub s.l.st s.ok (v6, v6, v6, v6) (addProg i rows s)
    (fun n acc => iprop(⌜acc = accs v6 (rows.view.read (Elt F) fr) base n⌝ ∗ (rows.view.loc (thr d i) ↦{fullShare} fr : sProp 𝕄))) hbody) $$ [H]
  · isplitr
    · ipureintro; rfl
    · iexact H
  iintro %acc ⟨%hacc, H⟩
  have hacc' : acc = accs v6 (rows.view.read (Elt F) fr) base 50 := hacc.trans (congrArg (accs v6 (rows.view.read (Elt F) fr) base) hs.n)
  rw [hacc']
  iapply HK $$ H

/-- One store of sixteen output columns, on top of the stores before it. -/
theorem wp_put (out : Memref sig .scVector .vmem S128x64 .f32) (o : Fin 2 → ℕ) (h : ∀ a, o a + S1x16.size a ≤ S128x64.size a)
    (v : FVec F S1x16 .f32) (fo : Buf (Elt F) (out.view.loc (thr d i))) (L : List (View.Piece (Elt F) S128x64 .f32))
    {β : Type} (kk : PUnit → Prog (Eff F i) β) (Q : β → sProp 𝕄) :
    (out.view.loc (thr d i) ↦{fullShare} out.view.writes (Elt F) fo L : sProp 𝕄)
      ⊢ iprop(((out.view.loc (thr d i) ↦{fullShare} out.view.writes (Elt F) fo (⟨outRect o h, v⟩ :: L)) -∗
          wp frame (wpE (defs₀ (F := F)) 𝒱₀ (thr d i) none) Set.univ (kk ⟨⟩) Q)
        -∗ wp frame (wpE (defs₀ (F := F)) 𝒱₀ (thr d i) none) Set.univ (putProg i out o h v >>= kk) Q) := by
  iintro Ho HK
  simp only [putProg, Prog.bind_lift, Prog.bind_op, bind_assoc]
  iapply (wp_load (defs := defs₀ (F := F)) 𝒱₀ (thr d i) none Set.univ (m := out) (Finset.subset_univ _)) $$ Ho
  iintro Ho
  have hst := wp_store_writes (defs := defs₀ (F := F)) (nD := nD) 𝒱₀ (thr d i) none Set.univ (Q := Q) (m := out) (r := outRect o h) (w := v)
    (hx := View.stores_vmem_bits_univ h_S1x16 rfl) (hm := .inl rfl) (k := kk) (f := fo) (L := L) (S := Finset.univ) (Ix := HIx 1) (Name := ℕ) (U := UU) (Lvl := ℕ) (Finset.subset_univ _)
  iapply hst $$ Ho
  iexact HK

/-- One batch row's run: its output row is what its tokens and its gathered rows give, every other output row is kept. -/
theorem wp_row (toks : Memref sig .scVector .vmem S128x128 .i32) (rows : Memref sig .scVector .vmem S100x128 .f32)
    (out : Memref sig .scVector .vmem S128x64 .f32) (TP : S1000000x128.Idx → Elt F .f32)
    (t : Fin k1_t2_loop.trips) (j : Fin 4) (r : Fin 2) (s : Slots) (base : ℕ) (hs : s.At base)
    (ft : Buf (Elt F) (toks.view.loc (thr d i))) (fr : Buf (Elt F) (rows.view.loc (thr d i))) (fo : Buf (Elt F) (out.view.loc (thr d i)))
    (hR : ∀ n < 50, ∀ c, rows.view.read (Elt F) fr (ixR (n + base) c)
      = TP (ixP (toks.view.read (Elt F) ft (ixT (8 * t.val + 2 * j.val + r.val) n)).toNat c))
    {β : Type} (kk : PUnit → Prog (Eff F i) β) (Q : β → sProp 𝕄) :
    iprop((toks.view.loc (thr d i) ↦{fullShare} ft) ∗ (rows.view.loc (thr d i) ↦{fullShare} fr) ∗ (out.view.loc (thr d i) ↦{fullShare} fo) : sProp 𝕄)
      ⊢ iprop((∀ fo' : Buf (Elt F) (out.view.loc (thr d i)),
          ⌜∀ x, out.view.read (Elt F) fo' x = if (x (0 : Fin 2)).val = 8 * t.val + 2 * j.val + r.val
              then oT TP (toks.view.read (Elt F) ft) (8 * t.val + 2 * j.val + r.val) (x (1 : Fin 2)).val else out.view.read (Elt F) fo x⌝
          -∗ (toks.view.loc (thr d i) ↦{fullShare} ft) -∗ (rows.view.loc (thr d i) ↦{fullShare} fr) -∗ (out.view.loc (thr d i) ↦{fullShare} fo')
          -∗ wp frame (wpE (defs₀ (F := F)) 𝒱₀ (thr d i) none) Set.univ (kk ⟨⟩) Q)
        -∗ wp frame (wpE (defs₀ (F := F)) 𝒱₀ (thr d i) none) Set.univ
          (rowProg i toks rows out v4c v5c v6c (row0 TP 0) (row0 TP 1) (row0 TP 2) (row0 TP 3) t j r s >>= kk) Q) := by
  iintro ⟨Ht, Hr, Ho⟩ HK
  simp only [rowProg, Prog.bind_lift, Prog.bind_op, bind_assoc]
  iapply (wp_load (defs := defs₀ (F := F)) 𝒱₀ (thr d i) none Set.univ (m := toks) (Finset.subset_univ _)) $$ Ht
  iintro Ht
  iapply (wp_load (defs := defs₀ (F := F)) 𝒱₀ (thr d i) none Set.univ (m := toks) (Finset.subset_univ _)) $$ Ht
  iintro Ht
  iapply (wp_load (defs := defs₀ (F := F)) 𝒱₀ (thr d i) none Set.univ (m := toks) (Finset.subset_univ _)) $$ Ht
  iintro Ht
  iapply (wp_load (defs := defs₀ (F := F)) 𝒱₀ (thr d i) none Set.univ (m := toks) (Finset.subset_univ _)) $$ Ht
  iintro Ht
  rw [toks_read toks ft _ (k1_off16_inb t j r) _ 0 (k1_off16_eq t j r), toks_read toks ft _ (k1_off17_inb t j r) _ 1 (k1_off17_eq t j r),
    toks_read toks ft _ (k1_off18_inb t j r) _ 2 (k1_off18_eq t j r), toks_read toks ft _ (k1_off19_inb t j r) _ 3 (k1_off19_eq t j r)]
  iapply (wp_add d i rows s base hs v6c fr) $$ Hr
  iintro Hr
  simp only [accs, accR_eq TP (toks.view.read (Elt F) ft) (rows.view.read (Elt F) fr) base (8 * t.val + 2 * j.val + r.val) _ hR 50 le_rfl, bind_assoc]
  ihave Ho := (Entails.of_eq (show (out.view.loc (thr d i) ↦{fullShare} fo : sProp 𝕄)
    = (out.view.loc (thr d i) ↦{fullShare} out.view.writes (Elt F) fo []) from rfl)) $$ Ho
  iapply (wp_put d i out _ (k1_off24_inb t j r) _ fo []) $$ Ho
  iintro Ho
  iapply (wp_put d i out _ (k1_off25_inb t j r) _ fo _) $$ Ho
  iintro Ho
  iapply (wp_put d i out _ (k1_off26_inb t j r) _ fo _) $$ Ho
  iintro Ho
  iapply (wp_put d i out _ (k1_off27_inb t j r) _ fo _) $$ Ho
  iintro Ho
  iapply HK $$ [] Ht Hr Ho
  ipureintro
  intro x
  exact put_read out fo (8 * t.val + 2 * j.val + r.val) _ _ _ _ (k1_off24_inb t j r) (k1_off25_inb t j r) (k1_off26_inb t j r) (k1_off27_inb t j r)
    (k1_off24_eq t j r) (k1_off25_eq t j r) (k1_off26_eq t j r) (k1_off27_eq t j r)
    (fun b k => outP (accT TP (toks.view.read (Elt F) ft) b k 50) (cntT (toks.view.read (Elt F) ft) b) (row0 TP k)) _ x

end Row

end Cert.Proof.KernelIdeal
-- ==== Proof.KernelIdeal.Bufs.lean ====
/-
  The four gather buffers: starting a chunk's gather, and waiting for it.
-/
module

public import proofs.«01_k».proof.Proof.KernelIdeal.Row

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a gather reads -/

omit [FloatOps F] in
/-- The whole table, read through the slice a gather names, is the table. -/
theorem tabV_read (tab : Memref sig .scVector .hbm S1000000x128 .f32) (f : tab.view.ty.Contents (Elt F)) (x : S1000000x128.Idx) :
    (tabV tab).view.read (Elt F) f x = tab.view.read (Elt F) f x := by
  change tab.view.read (Elt F) f ((Rect.unit (s := S1000000x128) ![0, 0] S1000000x128.size inb_S1000000x128_S1000000x128_0_0).emb x) = _
  congr 1
  funext a
  match a with
  | 0 => exact Fin.ext (show 0 + 1 * (x (0 : Fin 2)).val = (x (0 : Fin 2)).val by omega)
  | 1 => exact Fin.ext (show 0 + 1 * (x (1 : Fin 2)).val = (x (1 : Fin 2)).val by omega)

omit [FloatOps F] in
/-- A chunk's offset list is its row of the repacked tokens. -/
theorem idxRow_read (idx : Memref sig .scVector .vmem S64x100 .i32) (f : idx.view.ty.Contents (Elt F)) (o : Fin 2 → ℕ)
    (h : ∀ a, o a + S1x100.size a ≤ S64x100.size a) (c : ℕ) (ho : o = ![c, 0]) (x : S100.Idx) :
    (idxRow idx o h).view.read (Elt F) f x = idx.view.read (Elt F) f (ixI c (x (0 : Fin 1)).val) := by
  subst ho
  have h0 := h 0
  change c + 1 ≤ 64 at h0
  have hx : (x (0 : Fin 1)).val < 100 := (x (0 : Fin 1)).isLt
  change idx.view.read (Elt F) f ((Rect.unit (s := S64x100) ![c, 0] S1x100.size h).emb (Shape.reshapeEquiv squeezes_S1x100_S100.numel_eq x)) = _
  have e : Shape.reshapeEquiv (s := S1x100) (s' := S100) squeezes_S1x100_S100.numel_eq x
      = (fun | 0 => ⟨0, by decide⟩ | 1 => ⟨(x (0 : Fin 1)).val, hx⟩ : S1x100.Idx) := by
    apply Shape.reshapeEquiv_eq_of_rowMajor
    rw [Shape.rowMajor_val_two, Shape.rowMajor_val_one]
    change 0 * 100 + (x (0 : Fin 1)).val = (x (0 : Fin 1)).val
    omega
  rw [e]
  congr 1
  funext a
  match a with
  | 0 => exact Fin.ext (show c + 1 * 0 = c % 64 by omega)
  | 1 => exact Fin.ext (show 0 + 1 * (x (0 : Fin 1)).val = (x (0 : Fin 1)).val % 100 by omega)

omit [FloatOps F] in
/-- Row `n` of a gather's payload is the table row the list's `n`-th word names. -/
theorem payload_read (g : S1000000x128.Idx → Elt F .f32) (w : S100.Idx → BitVec 32) (hin : ∀ x, (w x).toNat < 1000000)
    (n c : ℕ) (hn : n < 100) (x : S100.Idx) (hx : (x (0 : Fin 1)).val = n) :
    SparseCore.gatherPayload gathers_S1000000x128_S100x128 g (SparseCore.rows (F := F) w rfl hin) (ixR n c) = g (ixP (w x).toNat c) := by
  unfold SparseCore.gatherPayload
  congr 1
  have hr : ∀ k : Fin 100, k.val = n → (SparseCore.rows (F := F) (si := S100) (o := 100) (z := 1000000) w rfl hin k).val = (w x).toNat := by
    intro k hk
    unfold SparseCore.rows
    change (w _).toNat = _
    congr 2
    rw [Equiv.symm_apply_eq]
    apply Fin.ext
    rw [Shape.rowMajor_val_one, hx]
    exact hk
  funext a
  match a with
  | 0 =>
    apply Fin.ext
    refine (hr _ (Nat.mod_eq_of_lt hn)).trans ?_
    exact (Nat.mod_eq_of_lt (hin x)).symm
  | 1 => rfl

/-! ## A buffer's two states -/

section Buf

variable (d : Dev nD) (i : grid1.Coords)
variable (tab : Memref sig .scVector .hbm S1000000x128 .f32) (idx : Memref sig .scVector .vmem S64x100 .i32)
variable (qt qi : PosShare TreeShare) (fT : Buf (Elt F) (tab.view.loc (thr d i))) (fI : Buf (Elt F) (idx.view.loc (thr d i)))

/-- The rows chunk `c` names, in a buffer's contents. -/
def Holds (rows : Memref sig .scVector .vmem S100x128 .f32) (fr : Buf (Elt F) (rows.view.loc (thr d i))) (c : ℕ) : Prop :=
  ∀ n < 100, ∀ k, rows.view.read (Elt F) fr (ixR n k)
    = tab.view.read (Elt F) fT (ixP (idx.view.read (Elt F) fI (ixI c n)).toNat k)

/-- A buffer at rest, at some contents. -/
def Free (rows : Memref sig .scVector .vmem S100x128 .f32) (sem : DmaSems sig S_) : sProp 𝕄 :=
  iprop((tab.view.loc (thr d i) ↦{qt} fT) ∗ (idx.view.loc (thr d i) ↦{qi} fI) ∗ (∃ fr, rows.view.loc (thr d i) ↦{fullShare} fr)
    ∗ semVal (thr d i, SemLoc.dma sem.sem) 0)

/-- A buffer landed: it holds the rows its chunk names. -/
def Landed (rows : Memref sig .scVector .vmem S100x128 .f32) (c : ℕ) : sProp 𝕄 :=
  iprop(∃ fr, ⌜Holds d i tab idx fT fI rows fr c⌝ ∗ (tab.view.loc (thr d i) ↦{qt} fT) ∗ (idx.view.loc (thr d i) ↦{qi} fI)
    ∗ (rows.view.loc (thr d i) ↦{fullShare} fr))

/-- A buffer whose gather of chunk `c` is under way. -/
def InFl (rows : Memref sig .scVector .vmem S100x128 .f32) (sem : DmaSems sig S_) (c : ℕ) : sProp 𝕄 :=
  iprop(∃ D : sProp 𝕄, Transfers.Flight countersEmb (thr d i) (.dma sem.sem) (default : HIx 1) rows.view.dmaCredit D
    ∗ (D -∗ Landed d i tab idx qt qi fT fI rows c))

/-- Starting the gather of chunk `c`. -/
theorem wp_gather (rows : Memref sig .scVector .vmem S100x128 .f32) (hw : rows.view.set = Finset.univ)
    (hN : ∑ j, (rows.slice (S100x128.rowRect gathers_S1000000x128_S100x128.axis' j) (S100x128.stride_rowRect gathers_S1000000x128_S100x128.axis' j)).view.dmaCredit
      = rows.view.dmaCredit)
    (sem : DmaSems sig S_) (c : ℕ) (o : Fin 2 → ℕ) (h : ∀ a, o a + S1x100.size a ≤ S64x100.size a) (ho : o = ![c, 0])
    (hin : ∀ x, (idx.view.read (Elt F) fI x).toNat < 1000000) {β : Type} (kk : PUnit → Prog (Eff F i) β) (Q : β → sProp 𝕄) :
    Free d i tab idx qt qi fT fI rows sem
      ⊢ iprop((InFl d i tab idx qt qi fT fI rows sem c -∗ wp frame (wpE (defs₀ (F := F)) 𝒱₀ (thr d i) none) Set.univ (kk ⟨⟩) Q)
        -∗ wp frame (wpE (defs₀ (F := F)) 𝒱₀ (thr d i) none) Set.univ (gatherProg i tab idx rows sem o h >>= kk) Q) := by
  have hin' : ∀ x, ((idxRow idx o h).view.read (Elt F) fI x).toNat < 1000000 := fun x => by
    rw [idxRow_read idx fI o h c ho x]; exact hin _
  unfold Free
  iintro ⟨Ht, Hi, ⟨%fr, Hr⟩, Hsem⟩ HK
  ihave Ht := (pointsTo_split_subset (q := qt) (f := fT) (S := Finset.univ) (Finset.subset_univ (tabV tab).view.set)).1 $$ Ht
  icases Ht with ⟨Ht, Htr⟩
  ihave Hi := (pointsTo_split_subset (q := qi) (f := fI) (S := Finset.univ) (Finset.subset_univ (idxRow idx o h).view.set)).1 $$ Hi
  icases Hi with ⟨Hi, Hir⟩
  ihave Hr := (Entails.of_eq (show (rows.view.loc (thr d i) ↦{fullShare} fr : sProp 𝕄)
      = rows.view.loc (thr d i) ↦[rows.view.set]{fullShare} fr by rw [hw])) $$ Hr
  unfold gatherProg
  iapply (SparseCore.wp_indirectGatherLocal countersEmb 𝒱₀ (thr d i) none (hg := gathers_S1000000x128_S100x128) (default : HIx 1)
      rows.view.dmaCredit hN (by decide) hin') $$ [Ht Hr Hi Hsem]
  · isplitl [Ht]; · iexact Ht
    isplitl [Hr]; · iexact Hr
    isplitl [Hi]; · iexact Hi
    iexact Hsem
  iintro Hfl
  iapply HK
  unfold InFl
  iexists _
  isplitl [Hfl]; · iexact Hfl
  iintro ⟨Hr, Ht, Hi⟩
  unfold Landed
  iexists _
  isplitr
  swap
  · isplitl [Ht Htr]
    · iapply (pointsTo_split_subset (q := qt) (f := fT) (S := Finset.univ) (Finset.subset_univ (tabV tab).view.set)).2
      isplitl [Ht] <;> iassumption
    isplitl [Hi Hir]
    · iapply (pointsTo_split_subset (q := qi) (f := fI) (S := Finset.univ) (Finset.subset_univ (idxRow idx o h).view.set)).2
      isplitl [Hi] <;> iassumption
    iapply (Entails.of_eq (show (rows.view.loc (thr d i) ↦[rows.view.set]{fullShare} _ : sProp 𝕄)
      = rows.view.loc (thr d i) ↦{fullShare} _ by rw [hw]))
    iexact Hr
  · ipureintro
    intro n hn k
    have hx : ∃ x : S100.Idx, (x (0 : Fin 1)).val = n := ⟨fun | 0 => ⟨n, hn⟩, rfl⟩
    obtain ⟨x, hx⟩ := hx
    rw [View.read_write_univ, payload_read _ _ hin' n k hn x hx, tabV_read, idxRow_read idx fI o h c ho x, hx]

/-- Waiting for it. -/
theorem wp_wait (rows : Memref sig .scVector .vmem S100x128 .f32) (hb : rows.IsWhole)
    (sem : DmaSems sig S_) (c : ℕ) (O : CellTallies nD τ sig (HIx 1)) (W : Waits sig (HIx 1))
    {β : Type} (kk : PUnit → Prog (Eff F i) β) (Q : β → sProp 𝕄) :
    iprop(InFl d i tab idx qt qi fT fI rows sem c ∗ owes (thr d i) O W ∗ Transfers.MayWaits (thr d i) (default : HIx 1) O)
      ⊢ iprop((Landed d i tab idx qt qi fT fI rows c -∗ semVal (thr d i, SemLoc.dma sem.sem) 0
          -∗ owes (thr d i) O (insert (SemLoc.dma sem.sem, (default : HIx 1)) W)
          -∗ wp frame (wpE (defs₀ (F := F)) 𝒱₀ (thr d i) none) Set.univ (kk ⟨⟩) Q)
        -∗ wp frame (wpE (defs₀ (F := F)) 𝒱₀ (thr d i) none) Set.univ
          (SparseCore.waitIndirectGather sem.sem (tabV tab) rows (View.wordExact_bits rfl) hb.wordExact >>= kk) Q) := by
  unfold InFl
  iintro ⟨⟨%D, Hfl, HD⟩, HO, Hmw⟩ HK
  unfold SparseCore.waitIndirectGather
  simp only [Prog.bind_op, Prog.bind_ret]
  iapply (Transfers.wp_waitLocalO countersEmb 𝒱₀ (thr d i) none (default : HIx 1) (rfl : rows.view.dmaCredit = _)) $$ [Hfl HO Hmw]
  · isplitl [Hfl]; · iexact Hfl
    isplitl [HO]; · iexact HO
    iapply (Transfers.MayWaits.elim (SemLoc.dma sem.sem)) $$ Hmw
  iintro ⟨H, Hsem, HO⟩
  ihave HL := HD $$ H
  iapply HK $$ HL Hsem HO

end Buf

end Cert.Proof.KernelIdeal
-- ==== Proof.KernelIdeal.Trip.lean ====
/-
  One trip of the main loop, and the loop: four chunks a trip, each waited for, averaged, and its buffer given the chunk
  four ahead of the one it held.
-/
module

public import proofs.«01_k».proof.Proof.KernelIdeal.Bufs

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One chunk of a trip: the wait for its gather, and its two batch rows. -/
def chunkProg (i : grid1.Coords) (tab : Memref sig .scVector .hbm S1000000x128 .f32) (toks : Memref sig .scVector .vmem S128x128 .i32)
    (rows : Memref sig .scVector .vmem S100x128 .f32) (hb : rows.IsWhole) (out : Memref sig .scVector .vmem S128x64 .f32)
    (sem : DmaSems sig S_) (TP : S1000000x128.Idx → Elt F .f32) (t : Fin k1_t2_loop.trips) (j : Fin 4) (s s' : Slots) : Prog (Eff F i) PUnit := do
  SparseCore.waitIndirectGather sem.sem (tabV tab) rows (View.wordExact_bits rfl) hb.wordExact
  rowProg i toks rows out v4c v5c v6c (row0 TP 0) (row0 TP 1) (row0 TP 2) (row0 TP 3) t j 0 s
  rowProg i toks rows out v4c v5c v6c (row0 TP 0) (row0 TP 1) (row0 TP 2) (row0 TP 3) t j 1 s'

/-- A trip by its chunks. -/
theorem trip_chunks (i : grid1.Coords) (tab : Memref sig .scVector .hbm S1000000x128 .f32) (toks : Memref sig .scVector .vmem S128x128 .i32)
    (idx : Memref sig .scVector .vmem S64x100 .i32) (b0 b1 b2 b3 : Memref sig .scVector .vmem S100x128 .f32)
    (hb0 : b0.IsWhole) (hb1 : b1.IsWhole) (hb2 : b2.IsWhole) (hb3 : b3.IsWhole) (out : Memref sig .scVector .vmem S128x64 .f32)
    (s0 s1 s2 s3 : DmaSems sig S_) (TP : S1000000x128.Idx → Elt F .f32) (t : Fin k1_t2_loop.trips) :
    tripProg i tab toks idx b0 b1 b2 b3 hb0 hb1 hb2 hb3 out s0 s1 s2 s3 v4c v5c v6c (row0 TP 0) (row0 TP 1) (row0 TP 2) (row0 TP 3) t
      = (nextProg i tab idx b3 s3 (k1_cond1 t) (k1_off14 t) (k1_off14_inb t) >>= fun _ =>
        chunkProg i tab toks b0 hb0 out s0 TP t 0 slots3 slots4 >>= fun _ =>
        nextProg i tab idx b0 s0 (k1_cond2 t) (k1_off32 t) (k1_off32_inb t) >>= fun _ =>
        chunkProg i tab toks b1 hb1 out s1 TP t 1 slots5 slots6 >>= fun _ =>
        nextProg i tab idx b1 s1 (k1_cond3 t) (k1_off41 t) (k1_off41_inb t) >>= fun _ =>
        chunkProg i tab toks b2 hb2 out s2 TP t 2 slots7 slots8 >>= fun _ =>
        nextProg i tab idx b2 s2 (k1_cond4 t) (k1_off50 t) (k1_off50_inb t) >>= fun _ =>
        chunkProg i tab toks b3 hb3 out s3 TP t 3 slots9 slots10 >>= fun _ => pure ⟨⟩) := by
  unfold tripProg chunkProg
  simp only [bind_assoc]

section Trip

variable (d : Dev nD) (i : grid1.Coords)
variable (tab : Memref sig .scVector .hbm S1000000x128 .f32) (toks : Memref sig .scVector .vmem S128x128 .i32)
variable (idx : Memref sig .scVector .vmem S64x100 .i32) (out : Memref sig .scVector .vmem S128x64 .f32)
variable (fT : Buf (Elt F) (tab.view.loc (thr d i))) (ft : Buf (Elt F) (toks.view.loc (thr d i)))
variable (fI : Buf (Elt F) (idx.view.loc (thr d i)))

/-- The first `n` output rows are done. -/
def Done (n : ℕ) (fo : Buf (Elt F) (out.view.loc (thr d i))) : Prop :=
  ∀ x, (x (0 : Fin 2)).val < n → out.view.read (Elt F) fo x
    = oT (tab.view.read (Elt F) fT) (toks.view.read (Elt F) ft) (x (0 : Fin 2)).val (x (1 : Fin 2)).val

/-- The repacked tokens: a chunk's list is two batch rows' first fifty tokens. -/
def Repacked : Prop :=
  ∀ c < 64, ∀ n < 100, idx.view.read (Elt F) fI (ixI c n) = toks.view.read (Elt F) ft (ixT (2 * c + n / 50) (n % 50))

/-- One more output row is done. -/
theorem done_step (n b : ℕ) (fo fo' : Buf (Elt F) (out.view.loc (thr d i))) (hb : b = n)
    (h : Done d i tab toks out fT ft n fo)
    (h' : ∀ x, out.view.read (Elt F) fo' x = if (x (0 : Fin 2)).val = b
      then oT (tab.view.read (Elt F) fT) (toks.view.read (Elt F) ft) b (x (1 : Fin 2)).val else out.view.read (Elt F) fo x) :
    Done d i tab toks out fT ft (n + 1) fo' := by
  subst hb
  intro x hx
  rw [h' x]
  by_cases e : (x (0 : Fin 2)).val = b
  · rw [if_pos e, e]
  · rw [if_neg e]
    exact h x (by omega)

variable (O : CellTallies nD τ sig (HIx 1)) (W : Waits sig (HIx 1))

/-- What is owed, every wait recorded so far being the handshake's or a transfer's own. -/
def Ow : sProp 𝕄 := iprop(∃ W', ⌜∀ p ∈ W', p ∈ W ∨ p.2 = none⌝ ∗ owes (thr d i) O W')

/-- One chunk: its wait and its two batch rows. -/
theorem wp_chunk (qt qi : PosShare TreeShare) (rows : Memref sig .scVector .vmem S100x128 .f32) (hb : rows.IsWhole)
    (sem : DmaSems sig S_) (t : Fin k1_t2_loop.trips) (j : Fin 4) (s s' : Slots) (hs : s.At 0) (hs' : s'.At 50)
    (hI : Repacked d i toks idx ft fI) (ht : t.val < 16)
    (c b b' : ℕ) (hc : c = 4 * t.val + j.val) (hbb : b = 8 * t.val + 2 * j.val) (hbb' : b' = 8 * t.val + 2 * j.val + 2)
    {β : Type} (kk : PUnit → Prog (Eff F i) β) (Q : β → sProp 𝕄) :
    iprop(InFl d i tab idx qt qi fT fI rows sem c ∗ Ow d i O W ∗ Transfers.MayWaits (thr d i) (default : HIx 1) O
        ∗ (toks.view.loc (thr d i) ↦{fullShare} ft)
        ∗ (∃ fo, ⌜Done d i tab toks out fT ft b fo⌝ ∗ (out.view.loc (thr d i) ↦{fullShare} fo)))
      ⊢ iprop((Free d i tab idx qt qi fT fI rows sem -∗ Ow d i O W -∗ (toks.view.loc (thr d i) ↦{fullShare} ft)
          -∗ (∃ fo, ⌜Done d i tab toks out fT ft b' fo⌝ ∗ (out.view.loc (thr d i) ↦{fullShare} fo))
          -∗ wp frame (wpE (defs₀ (F := F)) 𝒱₀ (thr d i) none) Set.univ (kk ⟨⟩) Q)
        -∗ wp frame (wpE (defs₀ (F := F)) 𝒱₀ (thr d i) none) Set.univ
          (chunkProg i tab toks rows hb out sem (tab.view.read (Elt F) fT) t j s s' >>= kk) Q) := by
  subst hc hbb hbb'
  unfold chunkProg
  rw [bind_assoc]
  simp only [bind_assoc]
  unfold Ow
  iintro ⟨Hfl, ⟨%W', %hW', HO⟩, Hmw, Ht, ⟨%fo, %hfo, Ho⟩⟩ HK
  iapply (wp_wait d i tab idx qt qi fT fI rows hb sem (4 * t.val + j.val) O W') $$ [Hfl HO Hmw]
  · isplitl [Hfl]; · iexact Hfl
    isplitl [HO] <;> iassumption
  iintro HL Hsem HO
  unfold Landed
  icases HL with ⟨%fr, %hfr, HT, HI, Hr⟩
  have hj := j.isLt
  have hR : ∀ r : Fin 2, ∀ n < 50, ∀ c, rows.view.read (Elt F) fr (ixR (n + 50 * r.val) c)
      = tab.view.read (Elt F) fT (ixP (toks.view.read (Elt F) ft (ixT (8 * t.val + 2 * j.val + r.val) n)).toNat c) := by
    intro r n hn c
    have hr := r.isLt
    rw [hfr (n + 50 * r.val) (by omega) c, hI (4 * t.val + j.val) (by omega) (n + 50 * r.val) (by omega)]
    have e1 : 2 * (4 * t.val + j.val) + (n + 50 * r.val) / 50 = 8 * t.val + 2 * j.val + r.val := by omega
    have e2 : (n + 50 * r.val) % 50 = n := by omega
    rw [e1, e2]
  iapply (wp_row d i toks rows out (tab.view.read (Elt F) fT) t j 0 s 0 hs ft fr fo (fun n hn c => hR 0 n hn c)) $$ [Ht Hr Ho]
  · isplitl [Ht]; · iexact Ht
    isplitl [Hr] <;> iassumption
  iintro %fo1 %h1 Ht Hr Ho
  have hfo1 := done_step d i tab toks out fT ft _ _ fo fo1 rfl hfo h1
  iapply (wp_row d i toks rows out (tab.view.read (Elt F) fT) t j 1 s' 50 hs' ft fr fo1 (fun n hn c => hR 1 n hn c)) $$ [Ht Hr Ho]
  · isplitl [Ht]; · iexact Ht
    isplitl [Hr] <;> iassumption
  iintro %fo2 %h2 Ht Hr Ho
  have hfo2 := done_step d i tab toks out fT ft _ _ fo1 fo2 rfl hfo1 h2
  iapply HK $$ [HT HI Hr Hsem] [HO] Ht [Ho]
  · unfold Free
    isplitl [HT]; · iexact HT
    isplitl [HI]; · iexact HI
    isplitl [Hr]; · iexists _; iexact Hr
    iexact Hsem
  · iexists _; isplitr
    swap; · iexact HO
    ipureintro; intro p hp
    rcases Finset.mem_insert.mp hp with hp | hp
    · exact .inr (hp ▸ rfl)
    · exact hW' p hp
  · iexists fo2; isplitr
    · ipureintro; exact hfo2
    · iexact Ho

/-- A buffer between trips: under way with its next chunk while one is left, at rest after the last. -/
@[irreducible] def Mid (qt qi : PosShare TreeShare) (rows : Memref sig .scVector .vmem S100x128 .f32) (sem : DmaSems sig S_) (n c : ℕ) : sProp 𝕄 :=
  if n < 16 then InFl d i tab idx qt qi fT fI rows sem c else Free d i tab idx qt qi fT fI rows sem

/-- That the credit of a whole buffer is its rows' together. -/
abbrev RowsCredit (rows : Memref sig .scVector .vmem S100x128 .f32) : Prop :=
  ∑ j, (rows.slice (S100x128.rowRect gathers_S1000000x128_S100x128.axis' j) (S100x128.stride_rowRect gathers_S1000000x128_S100x128.axis' j)).view.dmaCredit
    = rows.view.dmaCredit

/-- The gather of a later chunk, where there is one. -/
theorem wp_next (qt qi : PosShare TreeShare) (rows : Memref sig .scVector .vmem S100x128 .f32) (hw : rows.view.set = Finset.univ)
    (hN : RowsCredit rows) (sem : DmaSems sig S_) (cnd : BitVec 1) (n c : ℕ) (hc : cnd = 1#1 ↔ n < 16)
    (o : Fin 2 → ℕ) (h : cnd = 1#1 → ∀ a, o a + S1x100.size a ≤ S64x100.size a) (ho : o = ![c, 0])
    (hin : ∀ x, (idx.view.read (Elt F) fI x).toNat < 1000000) {β : Type} (kk : Unit → Prog (Eff F i) β) (Q : β → sProp 𝕄) :
    Free d i tab idx qt qi fT fI rows sem
      ⊢ iprop((Mid d i tab idx fT fI qt qi rows sem n c -∗ wp frame (wpE (defs₀ (F := F)) 𝒱₀ (thr d i) none) Set.univ (kk ()) Q)
        -∗ wp frame (wpE (defs₀ (F := F)) 𝒱₀ (thr d i) none) Set.univ (nextProg i tab idx rows sem cnd o h >>= kk) Q) := by
  unfold nextProg Mid
  by_cases e : cnd = 1#1
  · rw [dif_pos e, if_pos (hc.mp e)]
    rw [bind_assoc]
    iintro HF HK
    iapply (wp_gather d i tab idx qt qi fT fI rows hw hN sem c o (h e) ho hin) $$ HF
    iintro HF
    simp only [pure_bind]
    iapply HK $$ HF
  · rw [dif_neg e, if_neg (fun h => e (hc.mpr h)), pure_bind]
    iintro HF HK
    iapply HK $$ HF

variable (b0 b1 b2 b3 : Memref sig .scVector .vmem S100x128 .f32) (s0 s1 s2 s3 : DmaSems sig S_)
variable (qt qi : Fin 4 → PosShare TreeShare)

/-- The loop's state between trips. -/
def St (n : ℕ) : sProp 𝕄 :=
  iprop((Mid d i tab idx fT fI (qt 0) (qi 0) b0 s0 n (4 * n) ∗ Mid d i tab idx fT fI (qt 1) (qi 1) b1 s1 n (4 * n + 1)
      ∗ Mid d i tab idx fT fI (qt 2) (qi 2) b2 s2 n (4 * n + 2) ∗ Free d i tab idx (qt 3) (qi 3) fT fI b3 s3)
    ∗ Ow d i O W ∗ Transfers.MayWaits (thr d i) (default : HIx 1) O ∗ (toks.view.loc (thr d i) ↦{fullShare} ft)
    ∗ (∃ fo, ⌜Done d i tab toks out fT ft (8 * n) fo⌝ ∗ (out.view.loc (thr d i) ↦{fullShare} fo)))

theorem trips2 : k1_t2_loop.trips = 16 := by decide +kernel

attribute [local irreducible] nextProg chunkProg Free
/-- One trip. -/
theorem wp_trip (hb0 : b0.IsWhole) (hb1 : b1.IsWhole) (hb2 : b2.IsWhole) (hb3 : b3.IsWhole)
    (hw0 : b0.view.set = Finset.univ) (hw1 : b1.view.set = Finset.univ) (hw2 : b2.view.set = Finset.univ) (hw3 : b3.view.set = Finset.univ)
    (hN0 : RowsCredit b0) (hN1 : RowsCredit b1) (hN2 : RowsCredit b2) (hN3 : RowsCredit b3)
    (hI : Repacked d i toks idx ft fI) (hin : ∀ x, (idx.view.read (Elt F) fI x).toNat < 1000000) (t : Fin k1_t2_loop.trips) :
    St d i tab toks idx out fT ft fI O W b0 b1 b2 b3 s0 s1 s2 s3 qt qi t.val
      ⊢ wp frame (wpE (defs₀ (F := F)) 𝒱₀ (thr d i) none) Set.univ
          (tripProg i tab toks idx b0 b1 b2 b3 hb0 hb1 hb2 hb3 out s0 s1 s2 s3 v4c v5c v6c (row0 (tab.view.read (Elt F) fT) 0)
            (row0 (tab.view.read (Elt F) fT) 1) (row0 (tab.view.read (Elt F) fT) 2) (row0 (tab.view.read (Elt F) fT) 3) t)
          (fun _ => St d i tab toks idx out fT ft fI O W b0 b1 b2 b3 s0 s1 s2 s3 qt qi (t.val + 1)) := by
  have ht : t.val < 16 := trips2 ▸ t.isLt
  have hc2 : k1_cond2 t = 1#1 ↔ t.val + 1 < 16 := (cond2_iff t).trans (by omega)
  have hm : ∀ (q q' : PosShare TreeShare) (b : Memref sig .scVector .vmem S100x128 .f32) (s : DmaSems sig S_) (c : ℕ),
      (Mid d i tab idx fT fI q q' b s t.val c : sProp 𝕄) = InFl d i tab idx q q' fT fI b s c := fun _ _ _ _ _ => by unfold Mid; exact if_pos ht
  rw [trip_chunks]
  unfold St
  rw [hm, hm, hm, show 4 * (t.val + 1) = 4 * t.val + 4 from by omega, show 8 * (t.val + 1) = 8 * t.val + 8 from by omega]
  iintro ⟨⟨H0, H1, H2, H3⟩, HO, #Hmw, Ht, Ho⟩
  iapply (wp_next d i tab idx fT fI (qt 3) (qi 3) b3 hw3 hN3 s3 (k1_cond1 t) t.val (4 * t.val + 3)
    ⟨fun _ => ht, fun _ => cond1_true t⟩ (k1_off14 t) (k1_off14_inb t) (k1_off14_eq t) hin) $$ H3
  iintro H3
  iapply (wp_chunk d i tab toks idx out fT ft fI O W (qt 0) (qi 0) b0 hb0 s0 t 0 slots3 slots4 at3 at4 hI ht (4 * t.val) (8 * t.val) (8 * t.val + 2) rfl rfl rfl) $$ [H0 HO Ht Ho]
  · isplitl [H0]; · iexact H0
    isplitl [HO]; · iexact HO
    isplitr; · iexact Hmw
    isplitl [Ht] <;> iassumption
  iintro H0 HO Ht Ho
  iapply (wp_next d i tab idx fT fI (qt 0) (qi 0) b0 hw0 hN0 s0 (k1_cond2 t) (t.val + 1) (4 * t.val + 4)
    hc2 (k1_off32 t) (k1_off32_inb t) (k1_off32_eq t) hin) $$ H0
  iintro H0
  iapply (wp_chunk d i tab toks idx out fT ft fI O W (qt 1) (qi 1) b1 hb1 s1 t 1 slots5 slots6 at5 at6 hI ht (4 * t.val + 1) (8 * t.val + 2) (8 * t.val + 4) rfl rfl rfl) $$ [H1 HO Ht Ho]
  · isplitl [H1]; · iexact H1
    isplitl [HO]; · iexact HO
    isplitr; · iexact Hmw
    isplitl [Ht] <;> iassumption
  iintro H1 HO Ht Ho
  iapply (wp_next d i tab idx fT fI (qt 1) (qi 1) b1 hw1 hN1 s1 (k1_cond3 t) (t.val + 1) (4 * t.val + 5)
    ((cond3_iff t).trans hc2) (k1_off41 t) (k1_off41_inb t) (k1_off41_eq t) hin) $$ H1
  iintro H1
  iapply (wp_chunk d i tab toks idx out fT ft fI O W (qt 2) (qi 2) b2 hb2 s2 t 2 slots7 slots8 at7 at8 hI ht (4 * t.val + 2) (8 * t.val + 4) (8 * t.val + 6) rfl rfl rfl) $$ [H2 HO Ht Ho]
  · isplitl [H2]; · iexact H2
    isplitl [HO]; · iexact HO
    isplitr; · iexact Hmw
    isplitl [Ht] <;> iassumption
  iintro H2 HO Ht Ho
  iapply (wp_next d i tab idx fT fI (qt 2) (qi 2) b2 hw2 hN2 s2 (k1_cond4 t) (t.val + 1) (4 * t.val + 6)
    ((cond4_iff t).trans hc2) (k1_off50 t) (k1_off50_inb t) (k1_off50_eq t) hin) $$ H2
  iintro H2
  ihave H3 := (Entails.of_eq (hm _ _ _ _ _)) $$ H3
  iapply (wp_chunk d i tab toks idx out fT ft fI O W (qt 3) (qi 3) b3 hb3 s3 t 3 slots9 slots10 at9 at10 hI ht (4 * t.val + 3) (8 * t.val + 6) (8 * t.val + 8) rfl rfl rfl) $$ [H3 HO Ht Ho]
  · isplitl [H3]; · iexact H3
    isplitl [HO]; · iexact HO
    isplitr; · iexact Hmw
    isplitl [Ht] <;> iassumption
  iintro H3 HO Ht Ho
  rw [wp_pure]
  imodintro
  isplitl [H0 H1 H2 H3]
  · isplitl [H0]; · iexact H0
    isplitl [H1]; · iexact H1
    isplitl [H2]; · iexact H2
    iexact H3
  isplitl [HO]; · iexact HO
  isplitr; · iexact Hmw
  isplitl [Ht]; · iexact Ht
  iexact Ho

end Trip

end Cert.Proof.KernelIdeal
-- ==== Proof.KernelIdeal.Repack.lean ====
/-
  The repacking: 128 rows of 50 tokens become 64 rows of 100 list entries, two batch rows a chunk.
-/
module

public import proofs.«01_k».proof.Proof.KernelIdeal.Trip
public import Idealize.ShloMosaic.Lib.Pipeline.Value

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen list entries of a chunk. -/
abbrev idxRect (o : Fin 2 → ℕ) (h : ∀ a, o a + S1x16.size a ≤ S64x100.size a) : Rect S64x100 := Rect.unit (s := S64x100) o S1x16.size h

/-- Sixteen tokens copied into the list. -/
def copyProg (i : grid1.Coords) (toks : Memref sig .scVector .vmem S128x128 .i32) (idx : Memref sig .scVector .vmem S64x100 .i32)
    (o o' : Fin 2 → ℕ) (h : ∀ a, o a + S1x16.size a ≤ S128x128.size a) (h' : ∀ a, o' a + S1x16.size a ≤ S64x100.size a) : Prog (Eff F i) PUnit := do
  let v : Vec F S1x16 .i32 ← Prog.lift (.load toks (tokRect o h).toLoadRect (View.loadsAt_vmem h_S1x16))
  let _ : Vec F S1x16 .i32 ← Prog.lift (.load idx (idxRect o' h').toLoadRect (View.loadsAt_vmem h_S1x16))
  Prog.lift (.store idx (idxRect o' h') (shapeCast S1x16 (shapeCast S16 v shapeCasts_S1x16_S16) shapeCasts_S16_S1x16) Finset.univ
    (View.stores_vmem_bits_univ h_S1x16 rfl) (.inl rfl))

/-- The list is filled before chunk `c`, and in chunk `c` before entry `m`. -/
def Part (Tk : S128x128.Idx → Elt F .i32) (I : S64x100.Idx → Elt F .i32) (c m : ℕ) : Prop :=
  ∀ x : S64x100.Idx, (x (0 : Fin 2)).val < c ∨ ((x (0 : Fin 2)).val = c ∧ (x (1 : Fin 2)).val < m) →
    I x = Tk (ixT (2 * (x (0 : Fin 2)).val + (x (1 : Fin 2)).val / 50) ((x (1 : Fin 2)).val % 50))

section Repack

variable (d : Dev nD) (i : grid1.Coords)
variable (toks : Memref sig .scVector .vmem S128x128 .i32) (idx : Memref sig .scVector .vmem S64x100 .i32)
variable (ft : Buf (Elt F) (toks.view.loc (thr d i)))

omit [FloatOps F] in
/-- One copy fills sixteen more entries. -/
theorem part_copy (fI : Buf (Elt F) (idx.view.loc (thr d i))) (o o' : Fin 2 → ℕ) (h : ∀ a, o a + S1x16.size a ≤ S128x128.size a)
    (h' : ∀ a, o' a + S1x16.size a ≤ S64x100.size a) (c m : ℕ) (r : ℕ) (k : ℕ) (hr : r < 2) (hk : k + 16 ≤ 50)
    (ho : o = ![2 * c + r, k]) (ho' : o' = ![c, 50 * r + k]) (hm : 50 * r + k ≤ m)
    (hP : Part (F := F) (toks.view.read (Elt F) ft) (idx.view.read (Elt F) fI) c m) :
    Part (F := F) (toks.view.read (Elt F) ft) (idx.view.read (Elt F) (idx.view.writes (Elt F) fI
      [⟨idxRect o' h', toks.view.readAt (Elt F) (tokRect o h).toLoadRect ft⟩])) c (50 * r + k + 16) := by
  subst ho
  have h0 := h 0
  have h1 := h 1
  intro x hx
  have hx0 : (x (0 : Fin 2)).val < 64 := (x (0 : Fin 2)).isLt
  have hx1 : (x (1 : Fin 2)).val < 100 := (x (1 : Fin 2)).isLt
  by_cases hin : (x (0 : Fin 2)).val = c ∧ 50 * r + k ≤ (x (1 : Fin 2)).val
  · obtain ⟨e0, e1⟩ := hin
    have hlt : (x (1 : Fin 2)).val < 50 * r + k + 16 := by omega
    rw [View.read_writes_cons_unit_of_mem idx.view fI h' _ [] x (ixV ((x (1 : Fin 2)).val - (50 * r + k))) ho'
        (Fin.forall_fin_two.mpr ⟨show (x (0 : Fin 2)).val = c + 0 by omega,
          show (x (1 : Fin 2)).val = 50 * r + k + ((x (1 : Fin 2)).val - (50 * r + k)) % 16 by omega⟩), View.readAt_apply]
    congr 1
    funext a
    match a with
    | 0 =>
      apply Fin.ext
      change 2 * c + r + 1 * 0 = (2 * (x (0 : Fin 2)).val + (x (1 : Fin 2)).val / 50) % 128
      omega
    | 1 =>
      apply Fin.ext
      change k + 1 * (((x (1 : Fin 2)).val - (50 * r + k)) % 16) = ((x (1 : Fin 2)).val % 50) % 128
      omega
  · have hlt : (x (0 : Fin 2)).val < c ∨ ((x (0 : Fin 2)).val = c ∧ (x (1 : Fin 2)).val < 50 * r + k) := by omega
    have hkeep : idx.view.read (Elt F) (idx.view.writes (Elt F) fI [⟨idxRect o' h', toks.view.readAt (Elt F) (tokRect ![2 * c + r, k] h).toLoadRect ft⟩]) x
        = idx.view.read (Elt F) fI x := by
      rcases hlt with hlt | ⟨-, hlt⟩
      · rw [View.read_writes_cons_unit_of_not_mem idx.view fI h' _ [] x ho' (0 : Fin 2) (.inl hlt)]; rfl
      · rw [View.read_writes_cons_unit_of_not_mem idx.view fI h' _ [] x ho' (1 : Fin 2) (.inl hlt)]; rfl
    rw [hkeep]
    exact hP x (by omega)

/-- What the repacking holds: the tokens, and the list filled so far. -/
def Rp (c m : ℕ) : sProp 𝕄 :=
  iprop((toks.view.loc (thr d i) ↦{fullShare} ft) ∗ (∃ fI, ⌜Part (F := F) (toks.view.read (Elt F) ft) (idx.view.read (Elt F) fI) c m⌝ ∗ (idx.view.loc (thr d i) ↦{fullShare} fI)))

theorem wp_copy (o o' : Fin 2 → ℕ) (h : ∀ a, o a + S1x16.size a ≤ S128x128.size a)
    (h' : ∀ a, o' a + S1x16.size a ≤ S64x100.size a) (c m m' : ℕ) (r : ℕ) (k : ℕ) (hr : r < 2) (hk : k + 16 ≤ 50)
    (ho : o = ![2 * c + r, k]) (ho' : o' = ![c, 50 * r + k]) (hm : 50 * r + k ≤ m) (hm' : m' = 50 * r + k + 16)
    {β : Type} (kk : PUnit → Prog (Eff F i) β) (Q : β → sProp 𝕄) :
    Rp d i toks idx ft c m
      ⊢ iprop((Rp d i toks idx ft c m' -∗ wp frame (wpE (defs₀ (F := F)) 𝒱₀ (thr d i) none) Set.univ (kk ⟨⟩) Q)
        -∗ wp frame (wpE (defs₀ (F := F)) 𝒱₀ (thr d i) none) Set.univ (copyProg i toks idx o o' h h' >>= kk) Q) := by
  unfold Rp
  iintro ⟨Ht, %fI, %hP, HI⟩ HK
  simp only [copyProg, Prog.bind_lift, Prog.bind_op, bind_assoc]
  iapply (wp_load (defs := defs₀ (F := F)) 𝒱₀ (thr d i) none Set.univ (m := toks) (Finset.subset_univ _)) $$ Ht
  iintro Ht
  iapply (wp_load (defs := defs₀ (F := F)) 𝒱₀ (thr d i) none Set.univ (m := idx) (Finset.subset_univ _)) $$ HI
  iintro HI
  rw [shapeCast_shapeCast]
  ihave HI := (Entails.of_eq (show (idx.view.loc (thr d i) ↦{fullShare} fI : sProp 𝕄)
    = (idx.view.loc (thr d i) ↦{fullShare} idx.view.writes (Elt F) fI []) from rfl)) $$ HI
  have hst := wp_store_writes (defs := defs₀ (F := F)) (nD := nD) 𝒱₀ (thr d i) none Set.univ (Q := Q) (m := idx) (r := idxRect o' h')
    (w := toks.view.readAt (Elt F) (tokRect o h).toLoadRect ft)
    (hx := View.stores_vmem_bits_univ h_S1x16 rfl) (hm := .inl rfl) (k := kk) (f := fI) (L := []) (S := Finset.univ) (Ix := HIx 1) (Name := ℕ) (U := UU) (Lvl := ℕ) (Finset.subset_univ _)
  iapply hst $$ HI
  iintro HI
  iapply HK
  isplitl [Ht]; · iexact Ht
  iexists _
  isplitr
  swap; · iexact HI
  ipureintro
  rw [hm']
  exact part_copy d i toks idx ft fI o o' h h' c m r k hr hk ho ho' hm hP

theorem trips1 : k1_t1_loop.trips = 64 := by decide +kernel

/-- One trip's copies. -/
def copiesProg (i : grid1.Coords) (toks : Memref sig .scVector .vmem S128x128 .i32) (idx : Memref sig .scVector .vmem S64x100 .i32)
    (t : Fin k1_t1_loop.trips) : Prog (Eff F i) Unit :=
  copyProg i toks idx (k1_off2 t 0#32) (k1_off3 t) (k1_off2_inb t 0) (k1_off3_inb t) >>= fun _ =>
  copyProg i toks idx (k1_off4 t 0#32) (k1_off5 t) (k1_off4_inb t 0) (k1_off5_inb t) >>= fun _ =>
  copyProg i toks idx (k1_off6 t 0#32) (k1_off7 t) (k1_off6_inb t 0) (k1_off7_inb t) >>= fun _ =>
  copyProg i toks idx (k1_off8 t 0#32) (k1_off9 t) (k1_off8_inb t 0) (k1_off9_inb t) >>= fun _ =>
  copyProg i toks idx (k1_off2 t 1#32) (k1_off10 t) (k1_off2_inb t 1) (k1_off10_inb t) >>= fun _ =>
  copyProg i toks idx (k1_off4 t 1#32) (k1_off11 t) (k1_off4_inb t 1) (k1_off11_inb t) >>= fun _ =>
  copyProg i toks idx (k1_off6 t 1#32) (k1_off12 t) (k1_off6_inb t 1) (k1_off12_inb t) >>= fun _ =>
  copyProg i toks idx (k1_off8 t 1#32) (k1_off13 t) (k1_off8_inb t 1) (k1_off13_inb t) >>= fun _ => pure ⟨⟩

omit [FloatOps F] in
theorem part_next (Tk : S128x128.Idx → Elt F .i32) (I : S64x100.Idx → Elt F .i32) (c : ℕ) (hP : Part (F := F) Tk I c 100) : Part (F := F) Tk I (c + 1) 0 := by
  intro x hx
  have hx1 : (x (1 : Fin 2)).val < 100 := (x (1 : Fin 2)).isLt
  exact hP x (by omega)

/-- One trip of the repacking fills one chunk. -/
theorem wp_copies (t : Fin k1_t1_loop.trips) :
    Rp d i toks idx ft t.val 0 ⊢ wp frame (wpE (defs₀ (F := F)) 𝒱₀ (thr d i) none) Set.univ (copiesProg i toks idx t) (fun _ => Rp d i toks idx ft (t.val + 1) 0) := by
  unfold copiesProg
  iintro H
  iapply (wp_copy d i toks idx ft _ _ (k1_off2_inb t 0) (k1_off3_inb t) t.val 0 16 0 0 (by omega) (by omega) (k1_off2_eq t 0) (k1_off3_eq t) (by omega) rfl) $$ H
  iintro H
  iapply (wp_copy d i toks idx ft _ _ (k1_off4_inb t 0) (k1_off5_inb t) t.val 16 32 0 16 (by omega) (by omega) (k1_off4_eq t 0) (k1_off5_eq t) (by omega) rfl) $$ H
  iintro H
  iapply (wp_copy d i toks idx ft _ _ (k1_off6_inb t 0) (k1_off7_inb t) t.val 32 48 0 32 (by omega) (by omega) (k1_off6_eq t 0) (k1_off7_eq t) (by omega) rfl) $$ H
  iintro H
  iapply (wp_copy d i toks idx ft _ _ (k1_off8_inb t 0) (k1_off9_inb t) t.val 48 50 0 34 (by omega) (by omega) (k1_off8_eq t 0) (k1_off9_eq t) (by omega) rfl) $$ H
  iintro H
  iapply (wp_copy d i toks idx ft _ _ (k1_off2_inb t 1) (k1_off10_inb t) t.val 50 66 1 0 (by omega) (by omega) (k1_off2_eq t 1) (k1_off10_eq t) (by omega) rfl) $$ H
  iintro H
  iapply (wp_copy d i toks idx ft _ _ (k1_off4_inb t 1) (k1_off11_inb t) t.val 66 82 1 16 (by omega) (by omega) (k1_off4_eq t 1) (k1_off11_eq t) (by omega) rfl) $$ H
  iintro H
  iapply (wp_copy d i toks idx ft _ _ (k1_off6_inb t 1) (k1_off12_inb t) t.val 82 98 1 32 (by omega) (by omega) (k1_off6_eq t 1) (k1_off12_eq t) (by omega) rfl) $$ H
  iintro H
  iapply (wp_copy d i toks idx ft _ _ (k1_off8_inb t 1) (k1_off13_inb t) t.val 98 100 1 34 (by omega) (by omega) (k1_off8_eq t 1) (k1_off13_eq t) (by omega) rfl) $$ H
  unfold Rp
  iintro ⟨Ht, %fI, %hP, HI⟩
  rw [wp_pure]
  imodintro
  isplitl [Ht]; · iexact Ht
  iexists fI
  isplitr
  · ipureintro; exact part_next _ _ _ hP
  · iexact HI

/-- The repacking leaves the list filled. -/
theorem wp_repack (fI : Buf (Elt F) (idx.view.loc (thr d i))) {β : Type} (kk : Unit → Prog (Eff F i) β) (Q : β → sProp 𝕄) :
    iprop((toks.view.loc (thr d i) ↦{fullShare} ft) ∗ (idx.view.loc (thr d i) ↦{fullShare} fI) : sProp 𝕄)
      ⊢ iprop((∀ fI', ⌜Repacked d i toks idx ft fI'⌝ -∗ (toks.view.loc (thr d i) ↦{fullShare} ft) -∗ (idx.view.loc (thr d i) ↦{fullShare} fI')
          -∗ wp frame (wpE (defs₀ (F := F)) 𝒱₀ (thr d i) none) Set.univ (kk ⟨⟩) Q)
        -∗ wp frame (wpE (defs₀ (F := F)) 𝒱₀ (thr d i) none) Set.univ
          (Scf.Loop.for k1_t1_loop k1_t1_ok ⟨⟩ (fun t (_ : Unit) => copiesProg i toks idx t) >>= kk) Q) := by
  iintro ⟨Ht, HI⟩ HK
  iapply (Scf.wp_for_bind frame (wpE (defs₀ (F := F)) 𝒱₀ (thr d i) none) Set.univ k1_t1_loop.lb k1_t1_loop.ub k1_t1_loop.st k1_t1_ok ⟨⟩
    (fun t (_ : Unit) => copiesProg i toks idx t) (fun n _ => Rp d i toks idx ft n 0) (fun t _ => wp_copies d i toks idx ft t)) $$ [Ht HI]
  · unfold Rp
    isplitl [Ht]; · iexact Ht
    iexists fI
    isplitr
    · ipureintro; intro x hx; omega
    · iexact HI
  iintro %u H
  unfold Rp
  icases H with ⟨Ht, %fI', %hP, HI⟩
  iapply HK $$ [] Ht HI
  ipureintro
  intro c hc n hn
  have hP' : Part (F := F) (toks.view.read (Elt F) ft) (idx.view.read (Elt F) fI') 64 0 := trips1 ▸ hP
  have := hP' (ixI c n) (.inl (Nat.mod_lt _ (by decide)))
  rw [this]
  congr 2
  · show 2 * (c % 64) + (n % 100) / 50 = _; rw [Nat.mod_eq_of_lt hc, Nat.mod_eq_of_lt hn]
  · show (n % 100) % 50 = _; rw [Nat.mod_eq_of_lt hn]

set_option maxRecDepth 65536 in
/-- A trip of the printed repacking is its copies. -/
theorem repack_eq (arg2 : Memref sig .scVector .hbm S4096x128 .i32) (harg2 : arg2.IsWhole) (arg3 : Memref sig .scVector .hbm S1000000x128 .f32) (harg3 : arg3.IsWhole) (arg4 : Memref sig .scVector .hbm S4096x64 .f32) (harg4 : arg4.IsWhole) (arg5 : Memref sig .scVector .vmem S128x128 .i32) (harg5 : arg5.IsWhole) (arg6 : Memref sig .scVector .vmem S64x100 .i32) (harg6 : arg6.IsWhole) (arg7 : Memref sig .scVector .vmem S100x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S1x128 .f32) (harg11 : arg11.IsWhole) (arg12 : Memref sig .scVector .vmem S128x64 .f32) (harg12 : arg12.IsWhole) (arg13 arg14 arg15 arg16 v30_r0 v30_r1 v30_r2 : DmaSems sig S_) :
    k1_t1_body (F := F) i arg2 harg2 arg3 harg3 arg4 harg4 arg5 harg5 arg6 harg6 arg7 harg7 arg8 harg8 arg9 harg9 arg10 harg10 arg11 harg11 arg12 harg12 arg13 arg14 arg15 arg16 v30_r0 v30_r1 v30_r2
      = fun t (_ : Unit) => copiesProg i arg5 arg6 t := by
  funext t u
  unfold k1_t1_body
  simp only [k1_part1_eq_skeleton]
  unfold k1_part1_skel copiesProg
  simp only [copyProg, bind_assoc, pure_bind]
  rfl

end Repack

end Cert.Proof.KernelIdeal
-- ==== Proof.KernelIdeal.Own.lean ====
/-
  A tile's buffers and semaphores taken one by one, and the moves that are a copy and its wait.
-/
module

public import proofs.«01_k».proof.Proof.KernelIdeal.Repack

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Own

variable (d : Dev nD) (i : grid1.Coords)

omit [FloatOps F] in
/-- The seven semaphores of a tile, and the rest. -/
theorem ownSems0_V :
    (ownSems0 (thr d i) : sProp 𝕄)
      = iprop(semVal ((thr d i, .dma cc1_scratch8.sem) : GSem nD τ sig) 0 ∗ semVal ((thr d i, .dma cc1_scratch9.sem) : GSem nD τ sig) 0 ∗ semVal ((thr d i, .dma cc1_scratch10.sem) : GSem nD τ sig) 0 ∗ semVal ((thr d i, .dma cc1_scratch11.sem) : GSem nD τ sig) 0 ∗ semVal ((thr d i, .dma cc1_scoped0.sem) : GSem nD τ sig) 0 ∗ semVal ((thr d i, .dma cc1_scoped1.sem) : GSem nD τ sig) 0 ∗ semVal ((thr d i, .dma cc1_scoped2.sem) : GSem nD τ sig) 0 ∗ bigSep ((((((((ownCells (thr d i)).erase ((thr d i, .dma cc1_scratch8.sem) : GSem nD τ sig)).erase ((thr d i, .dma cc1_scratch9.sem) : GSem nD τ sig)).erase ((thr d i, .dma cc1_scratch10.sem) : GSem nD τ sig)).erase ((thr d i, .dma cc1_scratch11.sem) : GSem nD τ sig)).erase ((thr d i, .dma cc1_scoped0.sem) : GSem nD τ sig)).erase ((thr d i, .dma cc1_scoped1.sem) : GSem nD τ sig)).erase ((thr d i, .dma cc1_scoped2.sem) : GSem nD τ sig)) fun g => semVal g 0) := by
  have ne_cell : ∀ {a b : SemLoc sig}, a ≠ b → ((thr d i, a) : GSem nD τ sig) ≠ (thr d i, b) := fun h e => h (congrArg Prod.snd e)
  unfold SparseCore.Cfg.ownSems0
  rw [SparseCore.bigSep_erase' ((mem_ownCells (g := ((thr d i, .dma cc1_scratch8.sem) : GSem nD τ sig))).mpr ⟨rfl, show (SemLoc.dma cc1_scratch8.sem : SemLoc sig).isScoped .scVector = true by decide⟩),
    SparseCore.bigSep_erase' (Finset.mem_erase.mpr ⟨ne_cell (by decide), (mem_ownCells (g := ((thr d i, .dma cc1_scratch9.sem) : GSem nD τ sig))).mpr ⟨rfl, show (SemLoc.dma cc1_scratch9.sem : SemLoc sig).isScoped .scVector = true by decide⟩⟩),
    SparseCore.bigSep_erase' (Finset.mem_erase.mpr ⟨ne_cell (by decide), Finset.mem_erase.mpr ⟨ne_cell (by decide), (mem_ownCells (g := ((thr d i, .dma cc1_scratch10.sem) : GSem nD τ sig))).mpr ⟨rfl, show (SemLoc.dma cc1_scratch10.sem : SemLoc sig).isScoped .scVector = true by decide⟩⟩⟩),
    SparseCore.bigSep_erase' (Finset.mem_erase.mpr ⟨ne_cell (by decide), Finset.mem_erase.mpr ⟨ne_cell (by decide), Finset.mem_erase.mpr ⟨ne_cell (by decide), (mem_ownCells (g := ((thr d i, .dma cc1_scratch11.sem) : GSem nD τ sig))).mpr ⟨rfl, show (SemLoc.dma cc1_scratch11.sem : SemLoc sig).isScoped .scVector = true by decide⟩⟩⟩⟩),
    SparseCore.bigSep_erase' (Finset.mem_erase.mpr ⟨ne_cell (by decide), Finset.mem_erase.mpr ⟨ne_cell (by decide), Finset.mem_erase.mpr ⟨ne_cell (by decide), Finset.mem_erase.mpr ⟨ne_cell (by decide), (mem_ownCells (g := ((thr d i, .dma cc1_scoped0.sem) : GSem nD τ sig))).mpr ⟨rfl, show (SemLoc.dma cc1_scoped0.sem : SemLoc sig).isScoped .scVector = true by decide⟩⟩⟩⟩⟩),
    SparseCore.bigSep_erase' (Finset.mem_erase.mpr ⟨ne_cell (by decide), Finset.mem_erase.mpr ⟨ne_cell (by decide), Finset.mem_erase.mpr ⟨ne_cell (by decide), Finset.mem_erase.mpr ⟨ne_cell (by decide), Finset.mem_erase.mpr ⟨ne_cell (by decide), (mem_ownCells (g := ((thr d i, .dma cc1_scoped1.sem) : GSem nD τ sig))).mpr ⟨rfl, show (SemLoc.dma cc1_scoped1.sem : SemLoc sig).isScoped .scVector = true by decide⟩⟩⟩⟩⟩⟩),
    SparseCore.bigSep_erase' (Finset.mem_erase.mpr ⟨ne_cell (by decide), Finset.mem_erase.mpr ⟨ne_cell (by decide), Finset.mem_erase.mpr ⟨ne_cell (by decide), Finset.mem_erase.mpr ⟨ne_cell (by decide), Finset.mem_erase.mpr ⟨ne_cell (by decide), Finset.mem_erase.mpr ⟨ne_cell (by decide), (mem_ownCells (g := ((thr d i, .dma cc1_scoped2.sem) : GSem nD τ sig))).mpr ⟨rfl, show (SemLoc.dma cc1_scoped2.sem : SemLoc sig).isScoped .scVector = true by decide⟩⟩⟩⟩⟩⟩⟩)]

omit [FloatOps F] in
/-- The eight scratch buffers of a tile, and the rest. -/
theorem ownBufs_V :
    (ownBufs (thr d i) : sProp 𝕄)
      = iprop((∃ f, (thr d i).loc cc1_scratch0 ↦{fullShare} f) ∗ (∃ f, (thr d i).loc cc1_scratch1 ↦{fullShare} f) ∗ (∃ f, (thr d i).loc cc1_scratch2 ↦{fullShare} f) ∗ (∃ f, (thr d i).loc cc1_scratch3 ↦{fullShare} f) ∗ (∃ f, (thr d i).loc cc1_scratch4 ↦{fullShare} f) ∗ (∃ f, (thr d i).loc cc1_scratch5 ↦{fullShare} f) ∗ (∃ f, (thr d i).loc cc1_scratch6 ↦{fullShare} f) ∗ (∃ f, (thr d i).loc cc1_scratch7 ↦{fullShare} f) ∗ bigSep (((((((((ownRefs (τ := τ) (.scVector (cV i) (jV i))).erase ((Proc.scVector (cV i) (jV i)).devRef cc1_scratch0)).erase ((Proc.scVector (cV i) (jV i)).devRef cc1_scratch1)).erase ((Proc.scVector (cV i) (jV i)).devRef cc1_scratch2)).erase ((Proc.scVector (cV i) (jV i)).devRef cc1_scratch3)).erase ((Proc.scVector (cV i) (jV i)).devRef cc1_scratch4)).erase ((Proc.scVector (cV i) (jV i)).devRef cc1_scratch5)).erase ((Proc.scVector (cV i) (jV i)).devRef cc1_scratch6)).erase ((Proc.scVector (cV i) (jV i)).devRef cc1_scratch7)) fun b => iprop(∃ f, ((d, b) : Loc nD τ sig) ↦{fullShare} f)) := by
  have ne_ref : ∀ {a b : Ref sig .scVector}, a ≠ b → (Proc.scVector (cV i) (jV i)).devRef a ≠ (Proc.scVector (cV i) (jV i)).devRef b :=
    fun h e => h (Proc.devRef_injective _ e)
  unfold SparseCore.Cfg.ownBufs
  refine (SparseCore.bigSep_erase' (SparseCore.Cfg.mem_ownRefs_of_owner (p := Proc.scVector (cV i) (jV i)) (b := ((Proc.scVector (cV i) (jV i)).devRef cc1_scratch0)) rfl)).trans ?_
  rw [SparseCore.bigSep_erase' (Finset.mem_erase.mpr ⟨ne_ref (by decide), SparseCore.Cfg.mem_ownRefs_of_owner (p := Proc.scVector (cV i) (jV i)) (b := ((Proc.scVector (cV i) (jV i)).devRef cc1_scratch1)) rfl⟩),
    SparseCore.bigSep_erase' (Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch2)) rfl⟩⟩),
    SparseCore.bigSep_erase' (Finset.mem_erase.mpr ⟨ne_ref (by decide), Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch3)) rfl⟩⟩⟩),
    SparseCore.bigSep_erase' (Finset.mem_erase.mpr ⟨ne_ref (by decide), Finset.mem_erase.mpr ⟨ne_ref (by decide), Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch4)) rfl⟩⟩⟩⟩),
    SparseCore.bigSep_erase' (Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch5)) rfl⟩⟩⟩⟩⟩),
    SparseCore.bigSep_erase' (Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch6)) rfl⟩⟩⟩⟩⟩⟩),
    SparseCore.bigSep_erase' (Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), Finset.mem_erase.mpr ⟨ne_ref (by decide), SparseCore.Cfg.mem_ownRefs_of_owner (p := Proc.scVector (cV i) (jV i)) (b := ((Proc.scVector (cV i) (jV i)).devRef cc1_scratch7)) rfl⟩⟩⟩⟩⟩⟩⟩)]

/-- A copy and the wait for it. -/
def moveProg (i : grid1.Coords) {sp sp' : Space} {s : Shape} {e : EltTy} (src : Memref sig .scVector sp s e) (dst : Memref sig .scVector sp' s e)
    (sem : DmaSem sig) (hs : src.view.WordExact) (hd : dst.view.WordExact)
    (ht : DmaTarget.Typed (nD := nD) sp (.dma sem) (.here (p := .scVector (cV i) (jV i)) dst)) : Prog (Eff F i) PUnit := do
  Prog.lift (.enqueueDma src (.here dst) (.dma sem) hs hd ht)
  Prog.lift (.waitDma2 sem src dst hs hd)

/-- A copy and its wait: the destination holds what the source holds. -/
theorem wp_move {sp sp' : Space} {s : Shape} {e : EltTy} (src : Memref sig .scVector sp s e) (dst : Memref sig .scVector sp' s e)
    (sem : DmaSem sig) (hs : src.view.WordExact) (hd : dst.view.WordExact)
    (ht : DmaTarget.Typed (nD := nD) sp (.dma sem) (.here (p := .scVector (cV i) (jV i)) dst)) (q : PosShare TreeShare)
    (fs : Buf (Elt F) (src.view.loc (thr d i))) (fd : Buf (Elt F) (dst.view.loc (thr d i))) (h0 : 0 < dst.view.dmaCredit)
    (O : CellTallies nD τ sig (HIx 1)) (W : Waits sig (HIx 1)) {β : Type} (kk : PUnit → Prog (Eff F i) β) (Q : β → sProp 𝕄) :
    iprop((src.view.loc (thr d i) ↦[src.view.set]{q} fs) ∗ (dst.view.loc (thr d i) ↦[dst.view.set]{fullShare} fd)
        ∗ semVal (thr d i, SemLoc.dma sem) 0 ∗ Ow d i O W ∗ Transfers.MayWaits (thr d i) (default : HIx 1) O)
      ⊢ iprop((((src.view.loc (thr d i) ↦[src.view.set]{q} fs)
            ∗ (dst.view.loc (thr d i) ↦[dst.view.set]{fullShare} dst.view.write (Elt F) fd (src.view.read (Elt F) fs) Finset.univ)
            ∗ semVal (thr d i, SemLoc.dma sem) 0 ∗ Ow d i O W)
          -∗ wp frame (wpE (defs₀ (F := F)) 𝒱₀ (thr d i) none) Set.univ (kk ⟨⟩) Q)
        -∗ wp frame (wpE (defs₀ (F := F)) 𝒱₀ (thr d i) none) Set.univ (moveProg i src dst sem hs hd ht >>= kk) Q) := by
  unfold Ow
  iintro ⟨Hs, Hd, Hsem, ⟨%W', %hW, HO⟩, Hmw⟩ HK
  simp only [moveProg, Prog.bind_lift, Prog.bind_op, bind_assoc]
  iapply (Transfers.wp_dmaLocal countersEmb 𝒱₀ (thr d i) none (default : HIx 1) dst.view.dmaCredit rfl h0 (Finset.Subset.refl _)) $$ [Hs Hd Hsem]
  · isplitl [Hs]; · iexact Hs
    isplitl [Hd]; · iexact Hd
    iexact Hsem
  iintro Hfl
  iapply (Transfers.wp_waitLocalO countersEmb 𝒱₀ (thr d i) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs⟩, Hsem, HO⟩
  iapply HK
  isplitl [Hs]; · iexact Hs
  isplitl [Hd]; · iexact Hd
  isplitl [Hsem]; · iexact Hsem
  iexists _
  isplitr
  swap; · iexact HO
  ipureintro
  intro p hp
  rcases Finset.mem_insert.mp hp with hp | hp
  · exact .inr (hp ▸ rfl)
  · exact hW p hp

end Own

end Cert.Proof.KernelIdeal
-- ==== Proof.KernelIdeal.Tile.lean ====
/-
  The task of one tile: its block of tokens fetched and repacked, its rows averaged, its block of the output written.
-/
module

public import proofs.«01_k».proof.Proof.KernelIdeal.Own

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task by its parts. -/
def tileProg (i : grid1.Coords) (arg2 : Memref sig .scVector .hbm S4096x128 .i32) (tab : Memref sig .scVector .hbm S1000000x128 .f32)
    (arg4 : Memref sig .scVector .hbm S4096x64 .f32) (toks : Memref sig .scVector .vmem S128x128 .i32) (htoks : toks.IsWhole)
    (idx : Memref sig .scVector .vmem S64x100 .i32) (b0 b1 b2 b3 : Memref sig .scVector .vmem S100x128 .f32)
    (hb0 : b0.IsWhole) (hb1 : b1.IsWhole) (hb2 : b2.IsWhole) (hb3 : b3.IsWhole)
    (row : Memref sig .scVector .vmem S1x128 .f32) (hrow : row.IsWhole) (out : Memref sig .scVector .vmem S128x64 .f32) (hout : out.IsWhole)
    (s0 s1 s2 s3 r0 r1 r2 : DmaSems sig S_) : Prog (Eff F i) PUnit := do
  moveProg i (arg2.slice (Rect.unit (s := S4096x128) (k1_off1 i) S128x128.size (k1_off1_inb i)) (fun _ => rfl)) toks r0.sem (View.wordExact_bits rfl) htoks.wordExact ⟨Or.inl rfl, trivial⟩
  moveProg i (tab.slice (Rect.unit (s := S1000000x128) ![0, 0] S1x128.size inb_S1000000x128_S1x128_0_0) (fun _ => rfl)) row r1.sem (View.wordExact_bits rfl) hrow.wordExact ⟨Or.inl rfl, trivial⟩
  Scf.Loop.for k1_t1_loop k1_t1_ok ⟨⟩ (fun t (_ : Unit) => copiesProg i toks idx t)
  let v8 : Vec F S1x16 .f32 ← Prog.lift (.load row (Rect.unit (s := S1x128) ![0, 0] S1x16.size inb_S1x128_S1x16_0_0).toLoadRect (View.loadsAt_vmem h_S1x16))
  let v11 : Vec F S1x16 .f32 ← Prog.lift (.load row (Rect.unit (s := S1x128) ![0, 16] S1x16.size inb_S1x128_S1x16_0_16).toLoadRect (View.loadsAt_vmem h_S1x16))
  let v14 : Vec F S1x16 .f32 ← Prog.lift (.load row (Rect.unit (s := S1x128) ![0, 32] S1x16.size inb_S1x128_S1x16_0_32).toLoadRect (View.loadsAt_vmem h_S1x16))
  let v17 : Vec F S1x16 .f32 ← Prog.lift (.load row (Rect.unit (s := S1x128) ![0, 48] S1x16.size inb_S1x128_S1x16_0_48).toLoadRect (View.loadsAt_vmem h_S1x16))
  gatherProg i tab idx b0 s0 ![0, 0] inb_S64x100_S1x100_0_0
  gatherProg i tab idx b1 s1 ![1, 0] inb_S64x100_S1x100_1_0
  gatherProg i tab idx b2 s2 ![2, 0] inb_S64x100_S1x100_2_0
  Scf.Loop.for k1_t2_loop k1_t2_ok ⟨⟩ (fun t (_ : Unit) => tripProg i tab toks idx b0 b1 b2 b3 hb0 hb1 hb2 hb3 out s0 s1 s2 s3 v4c v5c v6c
    (shapeCast S16 v8 shapeCasts_S1x16_S16) (shapeCast S16 v11 shapeCasts_S1x16_S16) (shapeCast S16 v14 shapeCasts_S1x16_S16)
    (shapeCast S16 v17 shapeCasts_S1x16_S16) t)
  moveProg i out (arg4.slice (Rect.unit (s := S4096x64) (k1_off59 i) S128x64.size (k1_off59_inb i)) (fun _ => rfl)) r2.sem hout.wordExact (View.wordExact_bits rfl) ⟨Or.inl rfl, trivial⟩
  pure ⟨⟩

set_option maxRecDepth 65536 in
/-- The printed task is its parts. -/
theorem tile_eq (i : grid1.Coords) (arg2 : Memref sig .scVector .hbm S4096x128 .i32) (harg2 : arg2.IsWhole) (arg3 : Memref sig .scVector .hbm S1000000x128 .f32) (harg3 : arg3.IsWhole) (arg4 : Memref sig .scVector .hbm S4096x64 .f32) (harg4 : arg4.IsWhole) (arg5 : Memref sig .scVector .vmem S128x128 .i32) (harg5 : arg5.IsWhole) (arg6 : Memref sig .scVector .vmem S64x100 .i32) (harg6 : arg6.IsWhole) (arg7 : Memref sig .scVector .vmem S100x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S1x128 .f32) (harg11 : arg11.IsWhole) (arg12 : Memref sig .scVector .vmem S128x64 .f32) (harg12 : arg12.IsWhole) (arg13 arg14 arg15 arg16 v30_r0 v30_r1 v30_r2 : DmaSems sig S_) :
    cc1__encoder_kernel (F := F) i arg2 harg2 arg3 harg3 arg4 harg4 arg5 harg5 arg6 harg6 arg7 harg7 arg8 harg8 arg9 harg9 arg10 harg10 arg11 harg11 arg12 harg12 arg13 arg14 arg15 arg16 v30_r0 v30_r1 v30_r2
      = tileProg i arg2 arg3 arg4 arg5 harg5 arg6 arg7 arg8 arg9 arg10 harg7 harg8 harg9 harg10 arg11 harg11 arg12 harg12 arg13 arg14 arg15 arg16 v30_r0 v30_r1 v30_r2 := by
  have ht : ∀ v4 v5 v6 v9 v12 v15 v17, k1_t2_body (F := F) i arg2 harg2 arg3 harg3 arg4 harg4 arg5 harg5 arg6 harg6 arg7 harg7 arg8 harg8 arg9 harg9 arg10 harg10 arg11 harg11 arg12 harg12 arg13 arg14 arg15 arg16 v30_r0 v30_r1 v30_r2 v4 v5 v6 v9 v12 v15 v17
      = fun t (_ : Unit) => tripProg i arg3 arg5 arg6 arg7 arg8 arg9 arg10 harg7 harg8 harg9 harg10 arg12 arg13 arg14 arg15 arg16 v4 v5 v6 v9 v12 v15 (shapeCast S16 v17 shapeCasts_S1x16_S16) t :=
    fun v4 v5 v6 v9 v12 v15 v17 => funext fun t => funext fun u => trip_eq ..
  rw [cc1__encoder_kernel_eq_skeleton]
  unfold cc1__encoder_kernel_skel
  simp only [k1_part20_eq_skeleton, ht]
  unfold k1_part20_skel tileProg
  simp only [repack_eq, moveProg, bind_assoc, pure_bind]
  rfl

/-! ## The memory a tile is given -/

abbrev kLoc (d : Dev nD) : Loc nD τ sig := (SparseCore.T d).loc main_v0
abbrev tLoc (d : Dev nD) : Loc nD τ sig := (SparseCore.T d).loc main_v2
abbrev oLoc (d : Dev nD) : Loc nD τ sig := (SparseCore.T d).loc main_v3

abbrev kM : Memref sig .scVector .hbm S4096x128 .i32 := Memref.whole main_v0_scv
abbrev tM : Memref sig .scVector .hbm S1000000x128 .f32 := Memref.whole main_v2_scv
abbrev oM : Memref sig .scVector .hbm S4096x64 .f32 := Memref.whole main_v3_scv
abbrev toksM : Memref sig .scVector .vmem S128x128 .i32 := Memref.whole cc1_scratch0
abbrev idxM : Memref sig .scVector .vmem S64x100 .i32 := Memref.whole cc1_scratch1
abbrev b0M : Memref sig .scVector .vmem S100x128 .f32 := Memref.whole cc1_scratch2
abbrev b1M : Memref sig .scVector .vmem S100x128 .f32 := Memref.whole cc1_scratch3
abbrev b2M : Memref sig .scVector .vmem S100x128 .f32 := Memref.whole cc1_scratch4
abbrev b3M : Memref sig .scVector .vmem S100x128 .f32 := Memref.whole cc1_scratch5
abbrev rowM : Memref sig .scVector .vmem S1x128 .f32 := Memref.whole cc1_scratch6
abbrev outM : Memref sig .scVector .vmem S128x64 .f32 := Memref.whole cc1_scratch7

theorem kdiv : 32 ∣ S4096x128.size 0 := ⟨128, rfl⟩
theorem odiv : 32 ∣ S4096x64.size 0 := ⟨128, rfl⟩
/-- Block `w` of the tokens, and of the output. -/
abbrev kPart (w : Fin 32) : Rect S4096x128 := Rect.part (s := S4096x128) (a₀ := 0) kdiv w
abbrev oPart (w : Fin 32) : Rect S4096x64 := Rect.part (s := S4096x64) (a₀ := 0) odiv w
abbrev kSet (w : Fin 32) : Finset S4096x128.Idx := (kM.view.slice (kPart w)).set
abbrev oSet (w : Fin 32) : Finset S4096x64.Idx := (oM.view.slice (oPart w)).set

/-- The block of the tile at coordinates `i`. -/
def wid (i : grid1.Coords) : Fin 32 :=
  ⟨2 * (i 1).val + (i 0).val, by have h0 : (i 0).val < 2 := (i 0).isLt; have h1 : (i 1).val < 16 := (i 1).isLt; omega⟩

def ixK (r c : ℕ) : S4096x128.Idx := fun
  | 0 => ⟨r % 4096, Nat.mod_lt _ (by decide)⟩
  | 1 => ⟨c % 128, Nat.mod_lt _ (by decide)⟩

/-- Block `w` of the tokens. -/
def tokBlk (Tk : S4096x128.Idx → Elt F .i32) (w : ℕ) : S128x128.Idx → Elt F .i32 := fun y => Tk (ixK (128 * w + (y (0 : Fin 2)).val) (y (1 : Fin 2)).val)

/-- The whole output. -/
def outV (Tk : S4096x128.Idx → Elt F .i32) (TP : S1000000x128.Idx → Elt F .f32) : S4096x64.Idx → Elt F .f32 :=
  fun x => oT TP (tokBlk Tk ((x (0 : Fin 2)).val / 128)) ((x (0 : Fin 2)).val % 128) (x (1 : Fin 2)).val

abbrev kRect (i : grid1.Coords) : Rect S4096x128 := Rect.unit (s := S4096x128) (k1_off1 i) S128x128.size (k1_off1_inb i)
abbrev oRect (i : grid1.Coords) : Rect S4096x64 := Rect.unit (s := S4096x64) (k1_off59 i) S128x64.size (k1_off59_inb i)
abbrev kBlk (i : grid1.Coords) : Memref sig .scVector .hbm S128x128 .i32 := kM.slice (kRect i) (fun _ => rfl)
abbrev oBlk (i : grid1.Coords) : Memref sig .scVector .hbm S128x64 .f32 := oM.slice (oRect i) (fun _ => rfl)
abbrev tRow : Memref sig .scVector .hbm S1x128 .f32 := tM.slice (Rect.unit (s := S1000000x128) ![0, 0] S1x128.size inb_S1000000x128_S1x128_0_0) (fun _ => rfl)

section Tile

variable (d : Dev nD) (i : grid1.Coords)

omit [FloatOps F] in
theorem kRect_eq : kRect i = kPart (wid i) := by
  unfold kRect kPart Rect.part Rect.block
  congr 1 <;> funext a
  · rw [k1_off1_eq]
    match a with
    | 0 => simp [Shape.partIx, Shape.partSize, wid]; omega
    | 1 => simp [Shape.partIx, Shape.partSize]
  · match a with
    | 0 => simp [Shape.partSize]
    | 1 => simp [Shape.partSize]
omit [FloatOps F] in
theorem oRect_eq : oRect i = oPart (wid i) := by
  unfold oRect oPart Rect.part Rect.block
  congr 1 <;> funext a
  · rw [k1_off59_eq]
    match a with
    | 0 => simp [Shape.partIx, Shape.partSize, wid]; omega
    | 1 => simp [Shape.partIx, Shape.partSize]
  · match a with
    | 0 => simp [Shape.partSize]
    | 1 => simp [Shape.partSize]
omit [FloatOps F] in
theorem set_kBlk : (kBlk i).view.set = kSet (wid i) := by
  show (kM.view.slice (kRect i)).set = (kM.view.slice (kPart (wid i))).set
  exact kRect_eq i ▸ rfl
omit [FloatOps F] in
theorem set_oBlk : (oBlk i).view.set = oSet (wid i) := by
  show (oM.view.slice (oRect i)).set = (oM.view.slice (oPart (wid i))).set
  exact oRect_eq i ▸ rfl

omit [FloatOps F] in
/-- A tile's block of tokens, read. -/
theorem kBlk_read (fk : Buf (Elt F) (kLoc d)) : (kBlk i).view.read (Elt F) fk = tokBlk fk (wid i).val := by
  funext y
  have hy : (y (0 : Fin 2)).val < 128 := (y (0 : Fin 2)).isLt
  have hy1 : (y (1 : Fin 2)).val < 128 := (y (1 : Fin 2)).isLt
  have hw := (wid i).isLt
  change fk ((kRect i).emb y) = fk (ixK (128 * (wid i).val + (y (0 : Fin 2)).val) (y (1 : Fin 2)).val)
  congr 1
  funext a
  match a with
  | 0 =>
    apply Fin.ext
    show (k1_off1 i) 0 + 1 * (y (0 : Fin 2)).val = (128 * (2 * (i 1).val + (i 0).val) + (y (0 : Fin 2)).val) % 4096
    rw [k1_off1_eq]
    change 2 * (i 1).val + (i 0).val < 32 at hw
    show 256 * (i 1).val + 128 * (i 0).val + 1 * (y (0 : Fin 2)).val = _
    omega
  | 1 =>
    apply Fin.ext
    show (k1_off1 i) 1 + 1 * (y (1 : Fin 2)).val = (y (1 : Fin 2)).val % 128
    rw [k1_off1_eq]
    show 0 + 1 * (y (1 : Fin 2)).val = _
    omega

omit [FloatOps F] in
/-- What a tile loads of row 0 is the table's row 0. -/
theorem row_read (fT : Buf (Elt F) (tLoc d)) (fr : rowM.view.ty.Contents (Elt F)) (k : ℕ) (o : Fin 2 → ℕ)
    (h : ∀ a, o a + S1x16.size a ≤ S1x128.size a) (ho : o = ![0, 16 * k]) :
    rowM.view.readAt (Elt F) (Rect.unit (s := S1x128) o S1x16.size h).toLoadRect (rowM.view.write (Elt F) fr (tRow.view.read (Elt F) fT) Finset.univ)
      = tabVec (tM.view.read (Elt F) fT) 0 k := by
  subst ho
  have h1 := h 1
  change 16 * k + 16 ≤ 128 at h1
  funext y
  have hy : (y (0 : Fin 2)).val < 1 := (y (0 : Fin 2)).isLt
  have hy1 : (y (1 : Fin 2)).val < 16 := (y (1 : Fin 2)).isLt
  rw [View.readAt_apply, View.read_write_univ]
  change tM.view.read (Elt F) fT ((Rect.unit (s := S1000000x128) ![0, 0] S1x128.size inb_S1000000x128_S1x128_0_0).emb _) = tM.view.read (Elt F) fT (ixP 0 (16 * k + (y (1 : Fin 2)).val))
  congr 1
  funext a
  match a with
  | 0 =>
    apply Fin.ext
    show 0 + 1 * (0 + 1 * (y (0 : Fin 2)).val) = 0 % 1000000
    omega
  | 1 =>
    apply Fin.ext
    show 0 + 1 * (16 * k + 1 * (y (1 : Fin 2)).val) = (16 * k + (y (1 : Fin 2)).val) % 128
    omega

/-- The finished block, written out, is its block of the whole output. -/
theorem out_write (fk : Buf (Elt F) (kLoc d)) (fT : Buf (Elt F) (tLoc d)) (fo : Buf (Elt F) (oLoc d)) (Tk : S128x128.Idx → Elt F .i32) (v : S128x64.Idx → Elt F .f32)
    (hTk : Tk = tokBlk fk (wid i).val)
    (hv : ∀ x, v x = oT (tM.view.read (Elt F) fT) Tk (x (0 : Fin 2)).val (x (1 : Fin 2)).val) :
    ∀ x ∈ (oBlk i).view.set, (oBlk i).view.write (Elt F) fo v Finset.univ x = (outV fk fT : Buf (Elt F) (oLoc d)) x := by
  intro x hx
  obtain ⟨y, -, rfl⟩ := Finset.mem_map.mp hx
  rw [View.write_emb_of_mem _ _ (Finset.mem_univ y), hv y, hTk]
  have hy : (y (0 : Fin 2)).val < 128 := (y (0 : Fin 2)).isLt
  have hw := (wid i).isLt
  have e0 : (((oBlk i).view.emb y) (0 : Fin 2)).val = 128 * (wid i).val + (y (0 : Fin 2)).val := by
    show (k1_off59 i) 0 + 1 * (y (0 : Fin 2)).val = 128 * (2 * (i 1).val + (i 0).val) + (y (0 : Fin 2)).val
    rw [k1_off59_eq]
    show 256 * (i 1).val + 128 * (i 0).val + 1 * (y (0 : Fin 2)).val = _
    omega
  have e1 : (((oBlk i).view.emb y) (1 : Fin 2)).val = (y (1 : Fin 2)).val := by
    show (k1_off59 i) 1 + 1 * (y (1 : Fin 2)).val = (y (1 : Fin 2)).val
    rw [k1_off59_eq]
    show 0 + 1 * (y (1 : Fin 2)).val = _
    omega
  show oT fT _ _ _ = outV fk fT ((oBlk i).view.emb y)
  unfold outV
  rw [e0, e1, show (128 * (wid i).val + (y (0 : Fin 2)).val) / 128 = (wid i).val by omega,
    show (128 * (wid i).val + (y (0 : Fin 2)).val) % 128 = (y (0 : Fin 2)).val by omega]

omit [FloatOps F] in
/-- A share is its four quarters. -/
theorem quarters {ℓ : Loc nD τ sig} (f : Buf (Elt F) ℓ) (q : PosShare TreeShare) :
    (ℓ ↦{q} f : sProp 𝕄) = iprop((ℓ ↦{q.left.left} f) ∗ (ℓ ↦{q.left.right} f) ∗ (ℓ ↦{q.right.left} f) ∗ (ℓ ↦{q.right.right} f)) := by
  have h : ∀ q : PosShare TreeShare, (ℓ ↦{q} f : sProp 𝕄) = iprop((ℓ ↦{q.left} f) ∗ (ℓ ↦{q.right} f)) := fun q =>
    BI.Entails.antisymm (pointsTo_share (PosShare.mem_left_op_right q)).1 (pointsTo_share (PosShare.mem_left_op_right q)).2
  rw [h q, h q.left, h q.right]
  refine BI.Entails.antisymm ?_ ?_
  · change (_ : sProp 𝕄) ⊢ _
    iintro ⟨⟨H0, H1⟩, H2, H3⟩
    isplitl [H0]; · iexact H0
    isplitl [H1]; · iexact H1
    isplitl [H2] <;> iassumption
  · change (_ : sProp 𝕄) ⊢ _
    iintro ⟨H0, H1, H2, H3⟩
    isplitl [H0 H1]
    · isplitl [H0] <;> iassumption
    · isplitl [H2] <;> iassumption

/-- The quarters, by number. -/
def quarter (q : PosShare TreeShare) : Fin 4 → PosShare TreeShare
  | 0 => q.left.left
  | 1 => q.left.right
  | 2 => q.right.left
  | 3 => q.right.right

abbrev kPts (w : Fin 32) (fk : Buf (Elt F) (kLoc d)) : sProp 𝕄 := kLoc d ↦[kSet w]{fullShare} fk
abbrev oPts (w : Fin 32) (fo : Buf (Elt F) (oLoc d)) : sProp 𝕄 := oLoc d ↦[oSet w]{fullShare} fo

attribute [local irreducible] gatherProg copiesProg tripProg St Free InFl Ow

set_option maxHeartbeats 4000000 in
/-- The task of a tile: from its block of tokens, a share of the table and its block of the output, the block of the
    output at what it computes. -/
theorem tile_body (hF : (K (F := F)).Facts) (q : PosShare TreeShare) (fk : Buf (Elt F) (kLoc d)) (fT : Buf (Elt F) (tLoc d)) (fo : Buf (Elt F) (oLoc d))
    (hk : ∀ j : S4096x128.Idx, (fk j).toNat < 1000000)
    (O : CellTallies nD τ sig (HIx 1)) (W : Waits sig (HIx 1)) (hO : ∀ g, O g none = 0) :
    iprop(levAts (K (F := F)).L (K (F := F)).lev ∗ emp
        ∗ (kPts d (wid i) fk ∗ (tLoc d ↦{q} fT) ∗ oPts d (wid i) fo)
        ∗ scopedBufs (thr d i) ∗ scopedSems0 (thr d i) ∗ owes (thr d i) O W)
      ⊢ wp frame (wpE (defs₀ (F := F)) 𝒱₀ (thr d i) none) Set.univ
          (cc1__encoder_kernel i kM (Memref.isWhole_whole _) tM (Memref.isWhole_whole _) oM (Memref.isWhole_whole _)
            toksM (Memref.isWhole_whole _) idxM (Memref.isWhole_whole _) b0M (Memref.isWhole_whole _) b1M (Memref.isWhole_whole _)
            b2M (Memref.isWhole_whole _) b3M (Memref.isWhole_whole _) rowM (Memref.isWhole_whole _) outM (Memref.isWhole_whole _)
            cc1_scratch8 cc1_scratch9 cc1_scratch10 cc1_scratch11 cc1_scoped0 cc1_scoped1 cc1_scoped2)
          fun _ => iprop((kPts d (wid i) fk ∗ (tLoc d ↦{q} fT) ∗ oPts d (wid i) (outV fk fT))
            ∗ scopedBufs (thr d i) ∗ scopedSems0 (thr d i)
            ∗ ∃ W', ⌜∀ p ∈ W', p ∈ W ∨ p.2 = none⌝ ∗ owes (thr d i) O W') := by
  rw [tile_eq]
  unfold tileProg
  rw [(K (F := F)).scopedBufs_V hF d (cV i) (jV i), SparseCore.Cfg.scopedSems0_V (Val := Elt F) d (cV i) (jV i), ownSems0_V, ownBufs_V]
  iintro ⟨#Hlv, -, ⟨Hk, Ht, Ho⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨S0, S1, S2, S3, S4, S5, S6, Hsems⟩, HO⟩
  ihave #Hmw := (show levAts (K (F := F)).L (K (F := F)).lev ⊢ Transfers.MayWaits (thr d i) (default : HIx 1) O from
    (K (F := F)).mayWaits_none (thr := thr d i) hO) $$ Hlv
  ihave HO := (show (owes (thr d i) O W : sProp 𝕄) ⊢ Ow d i O W from by
    unfold Ow; iintro H; iexists W; isplitr; · ipureintro; exact fun p hp => .inl hp
    iexact H) $$ HO
  -- the tokens
  iapply (wp_move d i (kBlk i) toksM cc1_scoped0.sem (View.wordExact_bits rfl) (Memref.isWhole_whole _).wordExact ⟨Or.inl rfl, trivial⟩ fullShare fk f0
    (by decide) O W) $$ [Hk H0 S4 HO]
  · isplitl [Hk]; · iapply (Entails.of_eq (show (kPts d (wid i) fk : sProp 𝕄) = ((kBlk i).view.loc (thr d i) ↦[(kBlk i).view.set]{fullShare} fk) by rw [set_kBlk])); iexact Hk
    isplitl [H0]; · iapply (Entails.of_eq (show ((thr d i).loc cc1_scratch0 ↦{fullShare} f0 : sProp 𝕄) = (toksM.view.loc (thr d i) ↦[toksM.view.set]{fullShare} f0) by rw [show toksM.view.set = Finset.univ from View.set_whole _])); iexact H0
    isplitl [S4]; · iexact S4
    isplitl [HO]; · iexact HO
    iexact Hmw
  iintro ⟨Hk, H0, S4, HO⟩
  -- row 0
  ihave Ht := (pointsTo_split_subset (q := q) (f := fT) (S := Finset.univ) (Finset.subset_univ tRow.view.set)).1 $$ Ht
  icases Ht with ⟨Htr, Ht⟩
  iapply (wp_move d i tRow rowM cc1_scoped1.sem (View.wordExact_bits rfl) (Memref.isWhole_whole _).wordExact ⟨Or.inl rfl, trivial⟩ q fT f6
    (by decide) O W) $$ [Htr H6 S5 HO]
  · isplitl [Htr]; · iexact Htr
    isplitl [H6]; · iapply (Entails.of_eq (show ((thr d i).loc cc1_scratch6 ↦{fullShare} f6 : sProp 𝕄) = (rowM.view.loc (thr d i) ↦[rowM.view.set]{fullShare} f6) by rw [show rowM.view.set = Finset.univ from View.set_whole _])); iexact H6
    isplitl [S5]; · iexact S5
    isplitl [HO]; · iexact HO
    iexact Hmw
  iintro ⟨Htr, H6, S5, HO⟩
  ihave Ht := (pointsTo_split_subset (q := q) (f := fT) (S := Finset.univ) (Finset.subset_univ tRow.view.set)).2 $$ [Htr Ht]; · isplitl [Htr] <;> iassumption
  -- the repacking
  obtain ⟨F0, hF0⟩ : ∃ F0 : Buf (Elt F) (toksM.view.loc (thr d i)), F0 = toksM.view.write (Elt F) f0 ((kBlk i).view.read (Elt F) fk) Finset.univ := ⟨_, rfl⟩
  have hTk : toksM.view.read (Elt F) F0 = tokBlk fk (wid i).val := by rw [hF0, View.read_write_univ, kBlk_read]
  ihave H0 := (Entails.of_eq (show (toksM.view.loc (thr d i) ↦[toksM.view.set]{fullShare} toksM.view.write (Elt F) f0 ((kBlk i).view.read (Elt F) fk) Finset.univ : sProp 𝕄)
    = (toksM.view.loc (thr d i) ↦{fullShare} F0) by rw [hF0, show toksM.view.set = Finset.univ from View.set_whole _])) $$ H0
  iapply (wp_repack d i toksM idxM F0 f1) $$ [H0 H1]
  · isplitl [H0]; · iexact H0
    iexact H1
  iintro %F1 %hR H0 H1
  have hin : ∀ x, (idxM.view.read (Elt F) F1 x).toNat < 1000000 := fun x => by
    have hx : x = ixI (x (0 : Fin 2)).val (x (1 : Fin 2)).val := by
      funext a
      match a with
      | 0 => exact Fin.ext (Nat.mod_eq_of_lt (x (0 : Fin 2)).isLt).symm
      | 1 => exact Fin.ext (Nat.mod_eq_of_lt (x (1 : Fin 2)).isLt).symm
    rw [hx, hR _ (x (0 : Fin 2)).isLt _ (x (1 : Fin 2)).isLt, hTk]
    exact hk _
  -- row 0 loaded
  ihave H6 := (Entails.of_eq (show (rowM.view.loc (thr d i) ↦[rowM.view.set]{fullShare} rowM.view.write (Elt F) f6 (tRow.view.read (Elt F) fT) Finset.univ : sProp 𝕄)
    = (rowM.view.loc (thr d i) ↦{fullShare} rowM.view.write (Elt F) f6 (tRow.view.read (Elt F) fT) Finset.univ) by rw [show rowM.view.set = Finset.univ from View.set_whole _])) $$ H6
  simp only [Prog.bind_lift]
  iapply (wp_load (defs := defs₀ (F := F)) 𝒱₀ (thr d i) none Set.univ (m := rowM) (Finset.subset_univ _)) $$ H6
  iintro H6
  iapply (wp_load (defs := defs₀ (F := F)) 𝒱₀ (thr d i) none Set.univ (m := rowM) (Finset.subset_univ _)) $$ H6
  iintro H6
  iapply (wp_load (defs := defs₀ (F := F)) 𝒱₀ (thr d i) none Set.univ (m := rowM) (Finset.subset_univ _)) $$ H6
  iintro H6
  iapply (wp_load (defs := defs₀ (F := F)) 𝒱₀ (thr d i) none Set.univ (m := rowM) (Finset.subset_univ _)) $$ H6
  iintro H6
  rw [row_read d fT f6 0 _ inb_S1x128_S1x16_0_0 rfl, row_read d fT f6 1 _ inb_S1x128_S1x16_0_16 rfl, row_read d fT f6 2 _ inb_S1x128_S1x16_0_32 rfl,
    row_read d fT f6 3 _ inb_S1x128_S1x16_0_48 rfl]
  -- the first gathers
  have hw : ∀ b : Ref sig .scVector, (View.whole b : View sig .scVector _ _ _).set = Finset.univ := fun b => View.set_whole b
  ihave Ht := (Entails.of_eq (quarters fT q)) $$ Ht
  icases Ht with ⟨T0, T1, T2, T3⟩
  ihave H1 := (Entails.of_eq (quarters F1 fullShare)) $$ H1
  icases H1 with ⟨I0, I1, I2, I3⟩
  have mk : ∀ (k : Fin 4) (b : Memref sig .scVector .vmem S100x128 .f32) (s : DmaSems sig S_) (f : Buf (Elt F) (b.view.loc (thr d i))),
      iprop((tM.view.loc (thr d i) ↦{quarter q k} fT) ∗ (idxM.view.loc (thr d i) ↦{quarter fullShare k} F1) ∗ (b.view.loc (thr d i) ↦{fullShare} f)
        ∗ semVal (thr d i, SemLoc.dma s.sem) 0) ⊢ (Free d i tM idxM (quarter q k) (quarter fullShare k) fT F1 b s : sProp 𝕄) := fun k b s f => by
    unfold Free
    iintro ⟨HT, HI, HB, HS⟩
    isplitl [HT]; · iexact HT
    isplitl [HI]; · iexact HI
    isplitl [HB]; · iexists f; iexact HB
    iexact HS
  ihave B0 := (mk 0 b0M cc1_scratch8 f2) $$ [T0 I0 H2 S0]
  · isplitl [T0]; · iexact T0
    isplitl [I0]; · iexact I0
    isplitl [H2]; · iexact H2
    iexact S0
  ihave B1 := (mk 1 b1M cc1_scratch9 f3) $$ [T1 I1 H3 S1]
  · isplitl [T1]; · iexact T1
    isplitl [I1]; · iexact I1
    isplitl [H3]; · iexact H3
    iexact S1
  ihave B2 := (mk 2 b2M cc1_scratch10 f4) $$ [T2 I2 H4 S2]
  · isplitl [T2]; · iexact T2
    isplitl [I2]; · iexact I2
    isplitl [H4]; · iexact H4
    iexact S2
  ihave B3 := (mk 3 b3M cc1_scratch11 f5) $$ [T3 I3 H5 S3]
  · isplitl [T3]; · iexact T3
    isplitl [I3]; · iexact I3
    isplitl [H5]; · iexact H5
    iexact S3
  iapply (wp_gather d i tM idxM (quarter q 0) (quarter fullShare 0) fT F1 b0M (View.set_whole _) (by decide) cc1_scratch8 0 ![0, 0] inb_S64x100_S1x100_0_0 rfl hin) $$ B0
  iintro B0
  iapply (wp_gather d i tM idxM (quarter q 1) (quarter fullShare 1) fT F1 b1M (View.set_whole _) (by decide) cc1_scratch9 1 ![1, 0] inb_S64x100_S1x100_1_0 rfl hin) $$ B1
  iintro B1
  iapply (wp_gather d i tM idxM (quarter q 2) (quarter fullShare 2) fT F1 b2M (View.set_whole _) (by decide) cc1_scratch10 2 ![2, 0] inb_S64x100_S1x100_2_0 rfl hin) $$ B2
  iintro B2
  -- the loop
  iapply (Scf.wp_for_bind frame (wpE (defs₀ (F := F)) 𝒱₀ (thr d i) none) Set.univ k1_t2_loop.lb k1_t2_loop.ub k1_t2_loop.st k1_t2_ok ⟨⟩
    (fun t (_ : Unit) => tripProg i tM toksM idxM b0M b1M b2M b3M (Memref.isWhole_whole _) (Memref.isWhole_whole _) (Memref.isWhole_whole _) (Memref.isWhole_whole _)
      outM cc1_scratch8 cc1_scratch9 cc1_scratch10 cc1_scratch11 v4c v5c v6c (row0 (tM.view.read (Elt F) fT) 0) (row0 (tM.view.read (Elt F) fT) 1)
      (row0 (tM.view.read (Elt F) fT) 2) (row0 (tM.view.read (Elt F) fT) 3) t)
    (fun n _ => St d i tM toksM idxM outM fT F0 F1 O W b0M b1M b2M b3M cc1_scratch8 cc1_scratch9 cc1_scratch10 cc1_scratch11 (quarter q) (quarter fullShare) n)
    (fun t _ => wp_trip d i tM toksM idxM outM fT F0 F1 O W b0M b1M b2M b3M cc1_scratch8 cc1_scratch9 cc1_scratch10 cc1_scratch11 (quarter q) (quarter fullShare)
      (Memref.isWhole_whole _) (Memref.isWhole_whole _) (Memref.isWhole_whole _) (Memref.isWhole_whole _)
      (View.set_whole _) (View.set_whole _) (View.set_whole _) (View.set_whole _) (by decide) (by decide) (by decide) (by decide) hR hin t)) $$ [B0 B1 B2 B3 HO H0 H7]
  · unfold St Mid
    rw [if_pos (by decide), if_pos (by decide), if_pos (by decide)]
    isplitl [B0 B1 B2 B3]
    · isplitl [B0]; · iexact B0
      isplitl [B1]; · iexact B1
      isplitl [B2]; · iexact B2
      iexact B3
    isplitl [HO]; · iexact HO
    isplitr; · iexact Hmw
    isplitl [H0]; · iexact H0
    iexists f7
    isplitr
    · ipureintro; intro x hx; exact absurd hx (Nat.not_lt_zero _)
    · iexact H7
  iintro %u HSt
  ihave HSt := (Entails.of_eq (show (St d i tM toksM idxM outM fT F0 F1 O W b0M b1M b2M b3M cc1_scratch8 cc1_scratch9 cc1_scratch10 cc1_scratch11 (quarter q) (quarter fullShare)
      (Scf.trips k1_t2_loop.lb k1_t2_loop.ub k1_t2_loop.st) : sProp 𝕄)
    = St d i tM toksM idxM outM fT F0 F1 O W b0M b1M b2M b3M cc1_scratch8 cc1_scratch9 cc1_scratch10 cc1_scratch11 (quarter q) (quarter fullShare) 16 from
      congrArg _ trips2)) $$ HSt
  unfold St Mid
  rw [if_neg (by decide), if_neg (by decide), if_neg (by decide)]
  unfold Free
  icases HSt with ⟨⟨⟨T0, I0, ⟨%g2, H2⟩, S0⟩, ⟨T1, I1, ⟨%g3, H3⟩, S1⟩, ⟨T2, I2, ⟨%g4, H4⟩, S2⟩, ⟨T3, I3, ⟨%g5, H5⟩, S3⟩⟩, HO, -, H0, ⟨%g7, %hD, H7⟩⟩
  ihave Ht := (Entails.of_eq (quarters (ℓ := tLoc d) fT q).symm) $$ [T0 T1 T2 T3]
  · isplitl [T0]; · iexact T0
    isplitl [T1]; · iexact T1
    isplitl [T2]; · iexact T2
    iexact T3
  ihave H1 := (Entails.of_eq (quarters (ℓ := (thr d i).loc cc1_scratch1) F1 fullShare).symm) $$ [I0 I1 I2 I3]
  · isplitl [I0]; · iexact I0
    isplitl [I1]; · iexact I1
    isplitl [I2]; · iexact I2
    iexact I3
  -- the block written out
  iapply (wp_move d i outM (oBlk i) cc1_scoped2.sem (Memref.isWhole_whole _).wordExact (View.wordExact_bits rfl) ⟨Or.inl rfl, trivial⟩ fullShare g7 fo
    (View.dmaCredit_pos _ (by decide)) O W) $$ [H7 Ho S6 HO]
  · isplitl [H7]; · iapply (Entails.of_eq (show (outM.view.loc (thr d i) ↦{fullShare} g7 : sProp 𝕄) = (outM.view.loc (thr d i) ↦[outM.view.set]{fullShare} g7) by rw [show outM.view.set = Finset.univ from View.set_whole _])); iexact H7
    isplitl [Ho]; · iapply (Entails.of_eq (show (oPts d (wid i) fo : sProp 𝕄) = ((oBlk i).view.loc (thr d i) ↦[(oBlk i).view.set]{fullShare} fo) by rw [set_oBlk])); iexact Ho
    isplitl [S6]; · iexact S6
    isplitl [HO]; · iexact HO
    iexact Hmw
  iintro ⟨H7, Ho, S6, HO⟩
  rw [wp_pure]
  imodintro
  isplitl [Hk Ht Ho]
  · isplitl [Hk]; · iapply (Entails.of_eq (show ((kBlk i).view.loc (thr d i) ↦[(kBlk i).view.set]{fullShare} fk : sProp 𝕄) = kPts d (wid i) fk by rw [set_kBlk])); iexact Hk
    isplitl [Ht]; · iexact Ht
    iapply (Entails.of_eq (show ((oBlk i).view.loc (thr d i) ↦[(oBlk i).view.set]{fullShare} (oBlk i).view.write (Elt F) fo (outM.view.read (Elt F) g7) Finset.univ : sProp 𝕄)
      = oPts d (wid i) (outV fk fT) from by
        rw [pointsTo_congr (out_write d i fk fT fo _ _ hTk fun x => hD x (show (x (0 : Fin 2)).val < 8 * 16 from (x (0 : Fin 2)).isLt)), set_oBlk]))
    iexact Ho
  isplitl [H0 H1 H2 H3 H4 H5 H6 H7 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]
    · iexists _
      iapply (Entails.of_eq (show (outM.view.loc (thr d i) ↦[outM.view.set]{fullShare} g7 : sProp 𝕄) = ((thr d i).loc cc1_scratch7 ↦{fullShare} g7) by rw [show outM.view.set = Finset.univ from View.set_whole _]))
      iexact H7
    iexact Hbufs
  isplitl [S0 S1 S2 S3 S4 S5 S6 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  unfold Ow
  iexact HO

end Tile

end Cert.Proof.KernelIdeal
-- ==== Proof.KernelIdeal.Region.lean ====
/-
  The TensorCore call: what the padded, transposed table holds after its 31 blocks.
-/
module

public import proofs.«01_k».proof.Proof.KernelIdeal.Tile
public import proofs.«01_k».proof.Proof.Gen.KernelIdeal.Points
public import proofs.«01_k».proof.Proof.Gen.KernelIdeal.Launch

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (Dat BodyObligationLoose)

/-! ## The block a point computes -/

def ixB (r c : ℕ) : S64x32768.Idx := fun
  | 0 => ⟨r % 64, Nat.mod_lt _ (by decide)⟩
  | 1 => ⟨c % 32768, Nat.mod_lt _ (by decide)⟩
def ixC (r c : ℕ) : S32768x64.Idx := fun
  | 0 => ⟨r % 32768, Nat.mod_lt _ (by decide)⟩
  | 1 => ⟨c % 64, Nat.mod_lt _ (by decide)⟩
def ixA (r c : ℕ) : S64x1000000.Idx := fun
  | 0 => ⟨r % 64, Nat.mod_lt _ (by decide)⟩
  | 1 => ⟨c % 1000000, Nat.mod_lt _ (by decide)⟩

omit [FloatOps F] in
theorem ixBC (r c : ℕ) (b : Fin 2) : (ixB c r ([(1 : Fin 2), 0][b.cast (show 2 = [(1 : Fin 2), 0].length from rfl)])).val = (ixC r c b).val := by
  match b with
  | 0 => rfl
  | 1 => rfl

/-- A block transposed, its columns padded with zeros. -/
def padB (X : S64x32768.Idx → Elt F .f32) : S32768x128.Idx → Elt F .f32 := fun y =>
  if (y (1 : Fin 2)).val < 64 then X (ixB (y (1 : Fin 2)).val (y (0 : Fin 2)).val) else Scalar.ofBits .f32 0x00000000#32

/-- The whole table transposed back, its columns padded with zeros. -/
def padV (A : S64x1000000.Idx → Elt F .f32) : S1000000x128.Idx → Elt F .f32 := fun y =>
  if (y (1 : Fin 2)).val < 64 then A (ixA (y (1 : Fin 2)).val (y (0 : Fin 2)).val) else Scalar.ofBits .f32 0x00000000#32

abbrev loRect : Rect S32768x128 := Rect.unit (s := S32768x128) ![0, 0] S32768x64.size inb_S32768x128_S32768x64_0_0
abbrev hiRect : Rect S32768x128 := Rect.unit (s := S32768x128) ![0, 64] S32768x64.size inb_S32768x128_S32768x64_0_64
abbrev inRect : Rect S64x32768 := Rect.unit (s := S64x32768) ![0, 0] S64x32768.size inb_S64x32768_S64x32768_0_0

section Body

variable (c : Dev nD)
variable (M0 : Memref sig .tc .vmem S64x32768 .f32) (h0 : M0.IsWhole) (M1 : Memref sig .tc .vmem S32768x128 .f32) (h1 : M1.IsWhole)

/-- The two stores leave the padded block. -/
theorem stores_read (f0 : Buf (Elt F) (M0.view.loc (c.tc : Thread nD τ))) (f1 : Buf (Elt F) (M1.view.loc (c.tc : Thread nD τ))) :
    M1.view.read (Elt F) (M1.view.writes (Elt F) f1 [⟨hiRect, k0_pay2 (F := F)⟩, ⟨loRect, k0_pay1 (M0.view.readAt (Elt F) inRect.toLoadRect f0)⟩])
      = padB (M0.view.read (Elt F) f0) := by
  funext y
  have hy0 : (y (0 : Fin 2)).val < 32768 := (y (0 : Fin 2)).isLt
  have hy1 : (y (1 : Fin 2)).val < 128 := (y (1 : Fin 2)).isLt
  unfold padB
  by_cases hlt : (y (1 : Fin 2)).val < 64
  · rw [if_pos hlt, View.read_writes_cons_unit_of_not_mem M1.view f1 inb_S32768x128_S32768x64_0_64 _ _ y rfl (1 : Fin 2) (.inl hlt),
      View.read_writes_cons_unit_of_mem M1.view f1 inb_S32768x128_S32768x64_0_0 _ [] y (ixC (y (0 : Fin 2)).val (y (1 : Fin 2)).val) rfl
        (Fin.forall_fin_two.mpr ⟨show (y (0 : Fin 2)).val = 0 + (y (0 : Fin 2)).val % 32768 by omega, show (y (1 : Fin 2)).val = 0 + (y (1 : Fin 2)).val % 64 by omega⟩)]
    show transpose S32768x64 [1, 0] (shapeCast S64x32768 _ shapeCasts_S64x32768_S64x32768) transposes_S64x32768_p1_0_S32768x64 (ixC (y (0 : Fin 2)).val (y (1 : Fin 2)).val) = _
    rw [shapeCast_self, transpose_apply _ _ _ _ (ixB (y (1 : Fin 2)).val (y (0 : Fin 2)).val) (fun b => ixBC (y (0 : Fin 2)).val (y (1 : Fin 2)).val b), View.readAt_apply]
    congr 1
    funext a
    match a with
    | 0 => apply Fin.ext; show 0 + 1 * ((y (1 : Fin 2)).val % 64) = (y (1 : Fin 2)).val % 64; omega
    | 1 => apply Fin.ext; show 0 + 1 * ((y (0 : Fin 2)).val % 32768) = (y (0 : Fin 2)).val % 32768; omega
  · rw [if_neg hlt, View.read_writes_cons_unit_of_mem M1.view f1 inb_S32768x128_S32768x64_0_64 _ _ y (ixC (y (0 : Fin 2)).val ((y (1 : Fin 2)).val - 64)) rfl
        (Fin.forall_fin_two.mpr ⟨show (y (0 : Fin 2)).val = 0 + (y (0 : Fin 2)).val % 32768 by omega, show (y (1 : Fin 2)).val = 64 + ((y (1 : Fin 2)).val - 64) % 64 by omega⟩)]
    rfl

/-- The body at a point: the second buffer ends at the first's block transposed and padded. -/
theorem body_wp (i : grid0.Coords) (X0 : S64x32768.Idx → Elt F .f32) (X1 : S32768x128.Idx → Elt F .f32) (Q : PUnit → sProp 𝕄) :
    iprop((owns (c.tc : Thread nD τ) M0 fullShare X0 ∗ owns (c.tc : Thread nD τ) M1 fullShare X1)
        ∗ (iprop(owns (c.tc : Thread nD τ) M0 fullShare X0 ∗ owns (c.tc : Thread nD τ) M1 fullShare (padB X0)) -∗ Q ⟨⟩))
      ⊢ wp frame (wpE (defs₀ (F := F)) 𝒱₀ (c.tc : Thread nD τ) none) Set.univ (cc0__transpose_pad_kernel i M0 h0 M1 h1) Q := by
  rw [cc0__transpose_pad_kernel_eq_skeleton]
  unfold cc0__transpose_pad_kernel_skel owns
  rw [h0.set_eq_univ, h1.set_eq_univ]
  simp only [Prog.lift, Prog.bind_op, Prog.bind_ret]
  iintro ⟨⟨⟨%f0, %hf0, H0⟩, %f1, %hf1, H1⟩, HQ⟩
  iapply (wp_load (defs := defs₀ (F := F)) 𝒱₀ (c.tc : Thread nD τ) none Set.univ (m := M0) (Finset.subset_univ _)) $$ H0
  iintro H0
  iapply (wp_load (defs := defs₀ (F := F)) 𝒱₀ (c.tc : Thread nD τ) none Set.univ (m := M1) (Finset.subset_univ _)) $$ H1
  iintro H1
  ihave H1 := (Entails.of_eq (show (M1.view.loc (c.tc : Thread nD τ) ↦{fullShare} f1 : sProp 𝕄)
    = (M1.view.loc (c.tc : Thread nD τ) ↦{fullShare} M1.view.writes (Elt F) f1 []) from rfl)) $$ H1
  have hst := fun k => wp_store_writes (defs := defs₀ (F := F)) (nD := nD) 𝒱₀ (c.tc : Thread nD τ) none Set.univ (Q := Q) (m := M1) (r := loRect)
    (w := k0_pay1 (M0.view.readAt (Elt F) inRect.toLoadRect f0))
    (hx := View.stores_vmem_bits_univ h_S32768x64 rfl) (hm := .inl rfl) (k := k) (f := f1) (L := []) (S := Finset.univ) (Ix := HIx 1) (Name := ℕ) (U := UU) (Lvl := ℕ) (Finset.subset_univ _)
  iapply (hst _) $$ H1
  iintro H1
  iapply (wp_load (defs := defs₀ (F := F)) 𝒱₀ (c.tc : Thread nD τ) none Set.univ (m := M1) (Finset.subset_univ _)) $$ H1
  iintro H1
  have hst' := fun k => wp_store_writes (defs := defs₀ (F := F)) (nD := nD) 𝒱₀ (c.tc : Thread nD τ) none Set.univ (Q := Q) (m := M1) (r := hiRect)
    (w := k0_pay2 (F := F))
    (hx := View.stores_vmem_bits_univ h_S32768x64 rfl) (hm := .inl rfl) (k := k) (f := f1) (L := [⟨loRect, k0_pay1 (M0.view.readAt (Elt F) inRect.toLoadRect f0)⟩])
    (S := Finset.univ) (Ix := HIx 1) (Name := ℕ) (U := UU) (Lvl := ℕ) (Finset.subset_univ _)
  iapply (hst' _) $$ H1
  iintro H1
  rw [wp_pure]
  imodintro
  iapply HQ
  isplitl [H0]
  · iexists f0; isplitr; · ipureintro; exact hf0
    iexact H0
  · iexists _; isplitr; swap; · iexact H1
    ipureintro; rw [← hf0]; exact stores_read c M0 M1 f0 f1

end Body

/-! ## The proof data -/

section Data

variable (fA : ∀ c : Dev nD, Buf (Elt F) ((c.tc : Thread nD τ).loc main_v1)) (fP : ∀ c : Dev nD, Buf (Elt F) ((c.tc : Thread nD τ).loc main_v2)) (b : ℕ)

/-- The input's block at a point, inside the array. -/
def xblk (c : Dev nD) (t : Fin cfg0.N) : (win0_0.xblock (grid0.coords t)).Idx → Elt F .f32 := (win0_0.blk t).view.read (Elt F) (fA c)

/-- The arrays as the call finds them; after a point, the two buffers at their blocks of the table and of the result. -/
def dats (_ : Fin 1) (c : Dev nD) : Dat τ (Elt F) (HIx 1) ℕ UU ℕ cfg0 c where
  A w := match w with
    | ⟨0, _⟩ => fA c
    | ⟨1, _⟩ => fP c
  after w t := match w with
    | ⟨0, _⟩ => win0_0.fill (grid0.coords t) (fun _ => Scalar.ofBits .f32 0#32) (xblk fA c t)
    | ⟨1, _⟩ => win0_1.fill (grid0.coords t) (fun _ => Scalar.ofBits .f32 0#32) ((win0_1.blk t).view.read (Elt F) (padV (fA c) : Buf (Elt F) ((c.tc : Thread nD τ).loc main_v2)))
  Φ _ := iprop(emp)
  q _ := fullShare
  owed _ := (K (F := F)).Otc c 0
  recorded _ := {p | (K (F := F)).lev ((c.tc : Thread nD τ), p.1) p.2 ≤ b}

omit [FloatOps F] in
theorem ix0_0 : ∀ t : Fin cfg0.N, win0_0.index t 0 = 0 := by decide +kernel
omit [FloatOps F] in
theorem ix0_1 : ∀ t : Fin cfg0.N, win0_0.index t 1 = t.val := by decide +kernel
omit [FloatOps F] in
theorem ix1_0 : ∀ t : Fin cfg0.N, win0_1.index t 0 = t.val := by decide +kernel
omit [FloatOps F] in
theorem ix1_1 : ∀ t : Fin cfg0.N, win0_1.index t 1 = 0 := by decide +kernel
omit [FloatOps F] in
theorem xs0_0 : ∀ t : Fin cfg0.N, win0_0.xsize (grid0.coords t) 0 = 64 := by decide +kernel
omit [FloatOps F] in
theorem xs0_1 : ∀ t : Fin cfg0.N, win0_0.xsize (grid0.coords t) 1 = min 32768 (1000000 - 32768 * t.val) := by decide +kernel
omit [FloatOps F] in
theorem xs1_0 : ∀ t : Fin cfg0.N, win0_1.xsize (grid0.coords t) 0 = min 32768 (1000000 - 32768 * t.val) := by decide +kernel
omit [FloatOps F] in
theorem xs1_1 : ∀ t : Fin cfg0.N, win0_1.xsize (grid0.coords t) 1 = 128 := by decide +kernel

/-- On the rows inside the array, the padded block of what was fetched is the block of the padded table. -/
theorem cut_padB (c : Dev nD) (t : Fin cfg0.N) (d : S64x32768.Idx → Elt F .f32) :
    win0_1.cut (grid0.coords t) (padB (win0_0.fill (grid0.coords t) d (xblk fA c t)))
      = (win0_1.blk t).view.read (Elt F) (padV (fA c) : Buf (Elt F) ((c.tc : Thread nD τ).loc main_v2)) := by
  funext j
  have hj0 : (j (0 : Fin 2)).val < win0_1.xsize (grid0.coords t) 0 := (j (0 : Fin 2)).isLt
  have hj1 : (j (1 : Fin 2)).val < win0_1.xsize (grid0.coords t) 1 := (j (1 : Fin 2)).isLt
  rw [xs1_0] at hj0
  rw [xs1_1] at hj1
  have ht : t.val < 31 := t.isLt
  have e0 : (((win0_1.rect t).emb j) (0 : Fin 2)).val = 32768 * t.val + (j (0 : Fin 2)).val := by
    show win0_1.index t 0 * 32768 + 1 * (j (0 : Fin 2)).val = _
    rw [ix1_0]; omega
  have e1 : (((win0_1.rect t).emb j) (1 : Fin 2)).val = (j (1 : Fin 2)).val := by
    show win0_1.index t 1 * 128 + 1 * (j (1 : Fin 2)).val = _
    rw [ix1_1]; omega
  change padB (win0_0.fill (grid0.coords t) d (xblk fA c t)) (win0_1.xinj (grid0.coords t) j) = padV (fA c) ((win0_1.rect t).emb j)
  unfold padB padV
  rw [e0, e1]
  change (if (j (1 : Fin 2)).val < 64 then win0_0.fill (grid0.coords t) d (xblk fA c t) (ixB (j (1 : Fin 2)).val (j (0 : Fin 2)).val) else _) = _
  by_cases hlt : (j (1 : Fin 2)).val < 64
  · rw [if_pos hlt, if_pos hlt]
    have hm : win0_0.moved (grid0.coords t) (ixB (j (1 : Fin 2)).val (j (0 : Fin 2)).val) = true := by
      rw [win0_0.moved_iff]
      refine Fin.forall_fin_two.mpr ⟨?_, ?_⟩
      · rw [xs0_0]; exact Nat.mod_lt _ (by decide)
      · rw [xs0_1]; show (j (0 : Fin 2)).val % 32768 < _; omega
    unfold Pipeline.Window.fill
    rw [dif_pos hm]
    change fA c ((win0_0.rect t).emb _) = fA c _
    congr 1
    funext a
    match a with
    | 0 =>
      apply Fin.ext
      show win0_0.index t 0 * 64 + 1 * ((j (1 : Fin 2)).val % 64) = (j (1 : Fin 2)).val % 64
      rw [ix0_0]; omega
    | 1 =>
      apply Fin.ext
      show win0_0.index t 1 * 32768 + 1 * ((j (0 : Fin 2)).val % 32768) = (32768 * t.val + (j (0 : Fin 2)).val) % 1000000
      rw [ix0_1]; omega
  · rw [if_neg hlt, if_neg hlt]

theorem before_0 (c : Dev nD) (t : Fin cfg0.N) (d) : (dats fA fP b 0 c).before (0 : Fin 2) t d = win0_0.fill (grid0.coords t) d (xblk fA c t) := by
  unfold Pipeline.Dat.before; rw [if_pos (fetch0_0 t)]; rfl

/-- The body's obligation at every point. -/
theorem body_obligation (c : Dev nD) : BodyObligationLoose (dats fA fP b 0 c) (defs₀ (F := F)) 𝒱₀ (none : HIx 1) Set.univ := fun t => by
  rw [bigSep_W0, bigSep_W0]
  simp only
  rw [show (dats fA fP b 0 c).Φ t.succ = (dats fA fP b 0 c).Φ t.castSucc from rfl,
    show (dats fA fP b 0 c).owesAt (none : HIx 1) t.succ = (dats fA fP b 0 c).owesAt (none : HIx 1) t.castSucc from rfl]
  iintro ⟨HΦ, Ho, ⟨%d0, H0⟩, ⟨%d1, H1⟩⟩
  rw [before_0 fA fP b c t d0]
  iapply (body_wp (F := F) c (win0_0.stage (cfg0.slots t 0)) (hstage0_0 ((cfg0.slots t 0).cast nbuf0_0)) (win0_1.stage (cfg0.slots t 1)) (hstage0_1 ((cfg0.slots t 1).cast nbuf0_1))
    (grid0.coords t) (win0_0.fill (grid0.coords t) d0 (xblk fA c t)) _ _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (c.tc : Thread nD τ) (win0_0.stage (cfg0.slots t 0)) fullShare (win0_0.fill (grid0.coords t) d0 (win0_0.cut (grid0.coords t)
      (win0_0.fill (grid0.coords t) (fun _ => Scalar.ofBits .f32 0#32) (xblk fA c t))))
    rw [win0_0.cut_fill]; try iexact H0
  · iexists padB (win0_0.fill (grid0.coords t) d0 (xblk fA c t))
    change _ ⊢ owns (c.tc : Thread nD τ) (win0_1.stage (cfg0.slots t 1)) fullShare (win0_1.fill (grid0.coords t) (padB (win0_0.fill (grid0.coords t) d0 (xblk fA c t))) (win0_1.cut (grid0.coords t)
      (win0_1.fill (grid0.coords t) (fun _ => Scalar.ofBits .f32 0#32) ((win0_1.blk t).view.read (Elt F) (padV (fA c) : Buf (Elt F) ((c.tc : Thread nD τ).loc main_v2))))))
    rw [win0_1.cut_fill, ← cut_padB fA c t d0, win0_1.fill_cut]; try iexact H1

/-! ## The array after the blocks -/

omit [FloatOps F] in
theorem mem_blk (t : Fin cfg0.N) (x : S1000000x128.Idx) :
    x ∈ (win0_1.blk t).view.setOn Finset.univ ↔ 32768 * t.val ≤ (x (0 : Fin 2)).val ∧ (x (0 : Fin 2)).val < 32768 * t.val + 32768 := by
  rw [View.setOn_univ]
  show x ∈ ((View.whole main_v2).slice (win0_1.rect t)).set ↔ _
  rw [View.set_slice_whole, Rect.mem_set_unit]
  have hx0 : (x (0 : Fin 2)).val < 1000000 := (x (0 : Fin 2)).isLt
  have hx1 : (x (1 : Fin 2)).val < 128 := (x (1 : Fin 2)).isLt
  refine Iff.trans (b := _ ∧ _) Fin.forall_fin_two ?_
  change (win0_1.index t 0 * 32768 ≤ (x (0 : Fin 2)).val ∧ (x (0 : Fin 2)).val < win0_1.index t 0 * 32768 + win0_1.xsize (grid0.coords t) 0)
    ∧ (win0_1.index t 1 * 128 ≤ (x (1 : Fin 2)).val ∧ (x (1 : Fin 2)).val < win0_1.index t 1 * 128 + win0_1.xsize (grid0.coords t) 1) ↔ _
  rw [ix1_0, ix1_1, xs1_0, xs1_1]
  omega

/-- After `n` points the first `32768 n` rows are the padded table's. -/
theorem arr_upto (c : Dev nD) : ∀ n, n ≤ 31 → ∀ x : S1000000x128.Idx, (x (0 : Fin 2)).val < 32768 * n →
    ((dats fA fP b 0 c).arrAt (1 : Fin 2) n : S1000000x128.Idx → Elt F .f32) x = padV (fA c) x
  | 0, _, x, hx => absurd hx (Nat.not_lt_zero _)
  | n + 1, hn, x, hx => by
    have hlt : n < cfg0.N := hn
    have hs : (dats fA fP b 0 c).arrAt (1 : Fin 2) (n + 1)
        = (win0_1.blk ⟨n, hlt⟩).view.write (Elt F) ((dats fA fP b 0 c).arrAt (1 : Fin 2) n)
          ((win0_1.blk ⟨n, hlt⟩).view.read (Elt F) (padV (fA c) : Buf (Elt F) ((c.tc : Thread nD τ).loc main_v2))) Finset.univ := by
      rw [(dats fA fP b 0 c).arrAt_succ (1 : Fin 2) ⟨n, hlt⟩, if_pos (flush0_1 _)]
      congr 1
      exact win0_1.cut_fill _ _ _
    rw [hs, View.write_read_eq_piecewise]
    unfold Finset.piecewise
    split
    · rfl
    · next hm =>
      rw [mem_blk] at hm
      have hm' : ¬ (32768 * n ≤ (x (0 : Fin 2)).val ∧ (x (0 : Fin 2)).val < 32768 * n + 32768) := hm
      exact arr_upto c n (by omega) x (by omega)

/-- After the call the result is the padded table. -/
theorem arr_final (c : Dev nD) : (dats fA fP b 0 c).arrAt (1 : Fin 2) cfg0.N = (padV (fA c) : Buf (Elt F) ((c.tc : Thread nD τ).loc main_v2)) := by
  funext x
  exact arr_upto fA fP b c 31 le_rfl x (by have : ((x : S1000000x128.Idx) (0 : Fin 2)).val < 1000000 := (x (0 : Fin 2)).isLt; omega)

/-! ## The call -/

abbrev adm : (p : Fin 1) → (pcfgs (F := F) p).Adm := fun q => (cfgs q).toPCfg_adm

omit [FloatOps F] in
/-- What the core owes the later calls names no cell at the index its waits use. -/
theorem Otc_none' (c : Dev nD) (g : GSem nD τ sig) : ((K (F := F)).Otc c 0) g (none : HIx 1) = 0 := by
  unfold SparseCore.Cfg.Otc
  have h0 : ∀ A B : CellTallies nD τ sig (HIx 1), A g none = 0 → B g none = 0 → (A + B) g none = 0 := fun A B hA hB => by
    show A g none + B g none = 0
    rw [hA, hB]
  refine Finset.sum_induction _ (fun O : CellTallies nD τ sig (HIx 1) => O g (none : HIx 1) = 0) h0 rfl fun q _ => ?_
  split
  · refine Finset.sum_induction _ (fun O : CellTallies nD τ sig (HIx 1) => O g (none : HIx 1) = 0) h0 rfl fun i _ => ?_
    rw [tallyAt_apply, if_neg (by rintro ⟨-, h⟩; cases h)]
  · rfl

theorem hwaits (c : Dev nD) : (levAts (K (F := F)).L (K (F := F)).lev : sProp 𝕄) ⊢ Pipeline.cellsWaits (Pipeline.pin (pcfgs (F := F)) adm) (dats fA fP b) (none : HIx 1) 0 c :=
  Pipeline.cellsWaits_intro _ _ _ _ _ fun w s t => (K (F := F)).mayWait_none _ fun g => by
    exact Otc_none' c g

set_option backward.isDefEq.respectTransparency.types false in
/-- The call, over the two arrays and what the core owes. -/
def reg : Pipeline.RegionSeg (pcfgs (F := F)) adm (dats fA fP b) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation fA fP b c
  hwaits c := hwaits fA fP b c
  pre c := iprop(((c.tc : Thread nD τ).loc main_v1 ↦{fullShare} fA c) ∗ ((c.tc : Thread nD τ).loc main_v2 ↦{fullShare} fP c)
    ∗ ∃ W, ⌜(K (F := F)).WBelow (SparseCore.T c) W b⌝ ∗ owes (SparseCore.T c) ((K (F := F)).Otc c 0) W)
  post c := iprop(((c.tc : Thread nD τ).loc main_v1 ↦{fullShare} fA c) ∗ ((c.tc : Thread nD τ).loc main_v2 ↦{fullShare} (padV (fA c) : Buf (Elt F) ((c.tc : Thread nD τ).loc main_v2)))
    ∗ ∃ W, ⌜(K (F := F)).WBelow (SparseCore.T c) W b⌝ ∗ owes (SparseCore.T c) ((K (F := F)).Otc c 0) W)
  X _ := BI.emp
  Y _ := BI.emp
  Z _ := BI.emp
  hentry c := by
    rw [Pipeline.ownSems0_none]
    unfold Pipeline.Dat.arrays
    rw [bigSep_W0, (dats fA fP b 0 c).share_full (fun _ => rfl) 0, (dats fA fP b 0 c).share_full (fun _ => rfl) 1]
    iintro ⟨⟨H1, H2, %W, %hW, HO⟩, -, -⟩
    imodintro
    isplitl [H1 H2]
    · isplitl [H1]
      · iapply (Entails.of_eq (show ((c.tc : Thread nD τ).loc main_v1 ↦{fullShare} fA c : sProp 𝕄) = _ by rw [← View.set_whole main_v1]; rfl)); iexact H1
      · iapply (Entails.of_eq (show ((c.tc : Thread nD τ).loc main_v2 ↦{fullShare} fP c : sProp 𝕄) = _ by rw [← View.set_whole main_v2]; rfl)); iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats fA fP b 0 c).Φ 0 = iprop(emp) from rfl, show (Pipeline.pin (pcfgs (F := F)) adm 0).spec = spec0 from rfl, scopedRest0_eq]
    iintro ⟨-, -, -⟩; iempintro
  hout c := by
    rw [Pipeline.ownSems0_none, show (dats fA fP b 0 c).Φ (Fin.last _) = iprop(emp) from rfl, show (Pipeline.pin (pcfgs (F := F)) adm 0).spec = spec0 from rfl, scopedRest0_eq]
    iintro -
    isplitr; · iempintro
    isplitr <;> iempintro
  hexit c := by
    unfold Pipeline.Dat.arrays
    rw [bigSep_W0, (dats fA fP b 0 c).share_full (fun _ => rfl) 0, (dats fA fP b 0 c).share_full (fun _ => rfl) 1]
    iintro ⟨⟨H1, H2⟩, HO, -, -⟩
    imodintro
    isplitl [H1]
    · iapply (Entails.of_eq (show ((c.tc : Thread nD τ).loc main_v1 ↦[(win0_0.arr).view.set]{fullShare} (dats fA fP b 0 c).arrAt (0 : Fin 2) cfg0.N : sProp 𝕄)
          = ((c.tc : Thread nD τ).loc main_v1 ↦{fullShare} fA c) by
        rw [show (dats fA fP b 0 c).arrAt (0 : Fin 2) cfg0.N = fA c from (dats fA fP b 0 c).arrAt_in (0 : Fin 2) rfl _, ← View.set_whole main_v1])); iexact H1
    isplitl [H2]
    · iapply (Entails.of_eq (show ((c.tc : Thread nD τ).loc main_v2 ↦[(win0_1.arr).view.set]{fullShare} (dats fA fP b 0 c).arrAt (1 : Fin 2) cfg0.N : sProp 𝕄)
          = ((c.tc : Thread nD τ).loc main_v2 ↦{fullShare} (padV (fA c) : Buf (Elt F) ((c.tc : Thread nD τ).loc main_v2))) by
        rw [← arr_final fA fP b c, ← View.set_whole main_v2])); iexact H2
    unfold Pipeline.Dat.owesAt Pipeline.owesWithin
    icases HO with ⟨%W, %hW, HO⟩; iexists W
    isplitr
    · ipureintro
      intro p hp
      rcases hW hp with h | ⟨w, s, rfl⟩
      · exact h
      · show (K (F := F)).lev _ none ≤ b
        rw [SparseCore.Cfg.lev_none]; exact Nat.zero_le _
    iexact HO

end Data

end Cert.Proof.KernelIdeal
-- ==== Proof.KernelIdeal.Launch.lean ====
/-
  The whole launch: the host's operations, the TensorCore call, the SparseCore call on its 32 tiles, and what the memory holds at the end.
-/
module

public import proofs.«01_k».proof.Proof.KernelIdeal.Region
public import Idealize.ShloMosaic.Lib.ShareLeaves

@[expose] public section

set_option synthInstance.maxSize 4096

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ShareLeaves (leaf pointsTo_leaves)
open Idealize.ShloMosaic.StableHlo (held wp_hlo_within)

variable (m : (ℓ : Loc nD τ sig) → Buf (Elt F) ℓ) (ρ : Dev nD → PrngReg)

/-! ## What the arrays hold -/

/-- The token array padded with zeros, the table transposed, the padded table, the result. -/
def kV (d : Dev nD) : Buf (Elt F) (kLoc d) :=
  pad S4096x128 ![0, 0] ![0, 78] ![0, 0] (m ((SparseCore.T d).loc main_arg0)) (constantI S_ 32 0#32) pads_S4096x50_S4096x128_000_0780 h_S_
def aV (d : Dev nD) : Buf (Elt F) ((d.tc : Thread nD τ).loc main_v1) :=
  transpose S64x1000000 [1, 0] (m ((SparseCore.T d).loc main_arg1) : S1000000x64.Idx → Elt F .f32) transposes_S1000000x64_S64x1000000_1_0
def tV (d : Dev nD) : Buf (Elt F) (tLoc d) := padV (aV m d)
def rV (d : Dev nD) : Buf (Elt F) (oLoc d) := outV (kV m d) (tV m d)

/-! ## The call's operands -/

/-- The number of tile `(c, i)`. -/
def wix (c : Fin 2) (i : Fin 16) : Fin 32 := ⟨2 * i.val + c.val, by omega⟩

def wEquiv : Fin 2 × Fin 16 ≃ Fin 32 where
  toFun x := wix x.1 x.2
  invFun w := (⟨w.val % 2, Nat.mod_lt _ (by decide)⟩, ⟨w.val / 2, by omega⟩)
  left_inv x := Prod.ext (Fin.ext (show (2 * x.2.val + x.1.val) % 2 = x.1.val by omega)) (Fin.ext (show (2 * x.2.val + x.1.val) / 2 = x.2.val by omega))
  right_inv w := Fin.ext (show 2 * (w.val / 2) + w.val % 2 = w.val by omega)

abbrev tq (w : Fin 32) : PosShare TreeShare := leaf 5 fullShare w

/-- What a tile takes: its rows of tokens, its share of the table, its rows of the output. -/
abbrev goP (d : Dev nD) (w : Fin 32) : sProp 𝕄 := iprop(kPts d w (kV m d) ∗ (tLoc d ↦{tq w} tV m d) ∗ oPts d w (m (oLoc d)))
/-- What it brings back: the same, its rows of the output computed. -/
abbrev tdP (d : Dev nD) (w : Fin 32) : sProp 𝕄 := iprop(kPts d w (kV m d) ∗ (tLoc d ↦{tq w} tV m d) ∗ oPts d w (rV m d))

def P : (K (F := F)).Pay (nD := nD) (Val := Elt F) (Name := ℕ) (U := UU) where
  st := fun q d c => match q with | 0 => bigSep Finset.univ fun i : Fin 16 => goP m d (wix (Fin.cast nCore_zero c) i)
  dn := fun q d c => match q with | 0 => bigSep Finset.univ fun i : Fin 16 => tdP m d (wix (Fin.cast nCore_zero c) i)
  go := fun q d c i => match q with | 0 => goP m d (wix (Fin.cast nCore_zero c) (Fin.cast nSub_zero i))
  td := fun q d c i => match q with | 0 => tdP m d (wix (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goP m d (wix (Fin.cast nCore_zero c) i)))
  dn q d c := match q with
    | 0 => (inferInstance : BI.Storable (upEmb : UEmb _ 𝕄) (bigSep Finset.univ fun i : Fin 16 => tdP m d (wix (Fin.cast nCore_zero c) i)))
  go q d c i := match q with
    | 0 => (inferInstance : BI.Storable (upEmb : UEmb _ 𝕄) (goP m d (wix (Fin.cast nCore_zero c) (Fin.cast nSub_zero i))))
  td q d c i := match q with
    | 0 => (inferInstance : BI.Storable (upEmb : UEmb _ 𝕄) (tdP m d (wix (Fin.cast nCore_zero c) (Fin.cast nSub_zero i))))

/-! ## A tile's task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__encoder_kernel (coordsV c s)
          kM (Memref.isWhole_whole _) tM (Memref.isWhole_whole _) oM (Memref.isWhole_whole _)
          toksM (Memref.isWhole_whole _) idxM (Memref.isWhole_whole _) b0M (Memref.isWhole_whole _) b1M (Memref.isWhole_whole _)
          b2M (Memref.isWhole_whole _) b3M (Memref.isWhole_whole _) rowM (Memref.isWhole_whole _) outM (Memref.isWhole_whole _)
          cc1_scratch8 cc1_scratch9 cc1_scratch10 cc1_scratch11 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task: the body's theorem at the tile's coordinates. -/
theorem tileObl (hF : (K (F := F)).Facts) (hk : ∀ d, ∀ j : S4096x128.Idx, (kV m d j).toNat < 1000000) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tq (wix (Fin.cast nCore_zero c) (Fin.cast nSub_zero i))) (kV m d) (tV m d) (m (oLoc d)) (hk d) O W hO).trans
    (wp_mono frame _ _ fun _ => obl_post)

/-! ## The arrays among the tiles -/

omit [FloatOps F] in
theorem kSet_eq (w : Fin 32) : kSet w = (kPart w).set := by
  show ((View.whole (main_v0_scv : Ref sig .scVector)).slice (kPart w)).set = _
  rw [View.set_slice]; exact Finset.map_refl
omit [FloatOps F] in
theorem oSet_eq (w : Fin 32) : oSet w = (oPart w).set := by
  show ((View.whole (main_v3_scv : Ref sig .scVector)).slice (oPart w)).set = _
  rw [View.set_slice]; exact Finset.map_refl
omit [FloatOps F] in
theorem k_disjoint : ∀ i ∈ (Finset.univ : Finset (Fin 32)), ∀ j ∈ (Finset.univ : Finset (Fin 32)), i ≠ j → Disjoint (kSet i) (kSet j) :=
  fun i _ j _ h => by rw [kSet_eq, kSet_eq]; exact Rect.part_disjoint kdiv h
omit [FloatOps F] in
theorem o_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem k_cover : (Finset.univ : Finset (Fin 32)).biUnion kSet = Finset.univ :=
  (Finset.biUnion_congr rfl fun i _ => kSet_eq i).trans (Rect.biUnion_part kdiv)
omit [FloatOps F] in
theorem o_cover : (Finset.univ : Finset (Fin 32)).biUnion oSet = Finset.univ :=
  (Finset.biUnion_congr rfl fun i _ => oSet_eq i).trans (Rect.biUnion_part odiv)

omit [FloatOps F] in
theorem k_rows (d : Dev nD) (f : Buf (Elt F) (kLoc d)) : (kLoc d ↦{fullShare} f : sProp 𝕄) = bigSep Finset.univ fun w : Fin 32 => kPts d w f := by
  unfold kPts
  rw [← pointsTo_biUnion Finset.univ (ℓ := kLoc d) kSet k_disjoint, k_cover]; try rfl
omit [FloatOps F] in
theorem o_rows (d : Dev nD) (f : Buf (Elt F) (oLoc d)) : (oLoc d ↦{fullShare} f : sProp 𝕄) = bigSep Finset.univ fun w : Fin 32 => oPts d w f := by
  unfold oPts
  rw [← pointsTo_biUnion Finset.univ (ℓ := oLoc d) oSet o_disjoint, o_cover]; try rfl

omit [FloatOps F] in
/-- The three arrays whole are the tiles' parts, core by core. -/
theorem tiles_eq (d : Dev nD) (fk : Buf (Elt F) (kLoc d)) (ft : Buf (Elt F) (tLoc d)) (fo : Buf (Elt F) (oLoc d)) :
    (iprop((kLoc d ↦{fullShare} fk) ∗ (tLoc d ↦{fullShare} ft) ∗ oLoc d ↦{fullShare} fo) : sProp 𝕄)
      = bigSep Finset.univ fun c : Fin 2 => bigSep Finset.univ fun i : Fin 16 =>
          iprop(kPts d (wix c i) fk ∗ (tLoc d ↦{tq (wix c i)} ft) ∗ oPts d (wix c i) fo) := by
  rw [k_rows, o_rows, pointsTo_leaves Finset.univ ft 5 fullShare]
  change iprop((bigSep Finset.univ fun w : Fin 32 => kPts d w fk) ∗ (bigSep Finset.univ fun w : Fin 32 => tLoc d ↦{tq w} ft) ∗ bigSep Finset.univ fun w : Fin 32 => oPts d w fo) = _
  rw [← bigSep_sep', ← bigSep_sep', bigSep_univ_equiv wEquiv, bigSep_univ_prod]
  rfl

theorem vecSplit : (K (F := F)).VecSplit' (P m) 0 := by
  intro d c
  show iprop(bigSep Finset.univ fun i : Fin 16 => goP m d (wix (Fin.cast nCore_zero c) i)) ⊢ |={Set.univ}=> iprop(
      (bigSep Finset.univ fun i : Fin 16 => goP m d (wix (Fin.cast nCore_zero c) i))
      ∗ ((bigSep Finset.univ fun i : Fin 16 => tdP m d (wix (Fin.cast nCore_zero c) i)) -∗ bigSep Finset.univ fun i : Fin 16 => tdP m d (wix (Fin.cast nCore_zero c) i)))
  iintro H; imodintro
  isplitl [H]; · iexact H
  iintro H; iexact H

theorem st0_eq (d : Dev nD) : (bigSep Finset.univ fun c : Fin ((K (F := F)).nCore 0) => (P m).st 0 d c)
    = iprop((kLoc d ↦{fullShare} kV m d) ∗ (tLoc d ↦{fullShare} tV m d) ∗ oLoc d ↦{fullShare} m (oLoc d)) := by
  rw [tiles_eq]; rfl
theorem dn0_eq (d : Dev nD) : (bigSep Finset.univ fun c : Fin ((K (F := F)).nCore 0) => (P m).dn 0 d c)
    = iprop((kLoc d ↦{fullShare} kV m d) ∗ (tLoc d ↦{fullShare} tV m d) ∗ oLoc d ↦{fullShare} rV m d) := by
  rw [tiles_eq]; rfl

/-! ## The ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipeline's ghost state on a device. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HP⟩
  ihave HP := (show BI.own ((embR : Emb (UP × Counters) (MT nD τ sig (HIx 1) (Elt F) ℕ UU ℕ)) (initOf (Pipeline.cells (Pipeline.pin (pcfgs (F := F)) adm) cellOf_inj) (Pipeline.launchToks (Pipeline.pin (pcfgs (F := F)) adm) cellOf_inj), 1))
      ⊢ BI.own ((EP (F := F)) (initOf (Pipeline.cells (Pipeline.pin (pcfgs (F := F)) adm) cellOf_inj) (Pipeline.launchToks (Pipeline.pin (pcfgs (F := F)) adm) cellOf_inj))) from BI.Entails.refl _) $$ HP
  ihave HP := (Pipeline.fund_ghost (Pipeline.pin (pcfgs (F := F)) adm) (EP (F := F)) cellOf_inj) $$ HP
  imod HP with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p : Fin 1 => Pipeline.cellsGhost (Pipeline.pin (pcfgs (F := F)) adm) (EP (F := F)) p c : sProp 𝕄)
        = bigSep Finset.univ fun c : Dev nD => Pipeline.cellsGhost (Pipeline.pin (pcfgs (F := F)) adm) (EP (F := F)) 0 c from
        bigSep_congr fun d _ => bigSep_univ_of_subsingleton (0 : Fin 1))); iexact Hc
    · iapply (Entails.of_eq (show (bigSep Finset.univ fun c : Dev nD => bigSep Finset.univ fun p : Fin 1 => Pipeline.toksInit (Pipeline.pin (pcfgs (F := F)) adm) (EP (F := F)) p c : sProp 𝕄)
        = bigSep Finset.univ fun c : Dev nD => Pipeline.toksInit (Pipeline.pin (pcfgs (F := F)) adm) (EP (F := F)) 0 c from
        bigSep_congr fun d _ => bigSep_univ_of_subsingleton (0 : Fin 1))); iexact Ht
  rw [show (bigSep Finset.univ fun thr : Thread nD τ => bigSep Finset.univ fun q : Fin 1 => (P (F := F) m).x q thr) = bigSep Finset.univ fun _ => iprop(emp) from
    (bigSep_congr fun _ _ => bigSep_univ_of_subsingleton (0 : Fin 1)), show (bigSep Finset.univ fun _ : Thread nD τ => (iprop(emp) : sProp 𝕄)) = iprop(emp) from bigSep_emp_const _]
  iempintro

/-! ## The TensorCore call inside the program -/

/-- The call, in the program of the pipeline's labels. -/
def callProg : Prog (TpuEff nD τ sig (Elt F) (ΛP (F := F)) .tc) PUnit := .op (.customCall (Pipeline.entry 0) ()) .ret

section Call

variable [∀ e, Nonempty (Elt F e)]

/-- The call's step in the program of the TensorCore. -/
theorem call_wp (fA : ∀ c : Dev nD, Buf (Elt F) ((c.tc : Thread nD τ).loc main_v1)) (fP : ∀ c : Dev nD, Buf (Elt F) ((c.tc : Thread nD τ).loc main_v2)) (b : ℕ) (d : Dev nD) (Q : PUnit → sProp 𝕄) :
    iprop((iprop(boundary (SparseCore.T d) ∗ (reg fA fP b).post d) -∗ Q ⟨⟩)
        ∗ boundary (SparseCore.T d) ∗ (reg fA fP b).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hl := (K (F := F)).wp_liftProg (Name := ℕ) (U := UU) (D (F := F)) 𝒱 (SparseCore.T d) Set.univ none (callProg (F := F)) Q
  refine BI.Entails.trans ?_ hl
  unfold callProg
  refine BI.Entails.trans ?_ (Pipeline.RegionSeg.wp (pcfgs (F := F)) adm (dats fA fP b) (none : HIx 1) cellOf_inj (EP (F := F)) (defs₀ (F := F)) 𝒱₀ (K (F := F)).L (K (F := F)).lev
    (reg fA fP b) d none (fun u hu => absurd hu (by simp)) .ret Q)
  rw [wp_ret]
  change (_ : sProp 𝕄) ⊢ _
  iintro ⟨HQ, Hb, Hp, Hl, Hg⟩
  isplitl [HQ]
  · iintro H; imodintro; iapply HQ; iexact H
  isplitl [Hb]; · iexact Hb
  isplitl [Hp]; · iexact Hp
  isplitl [Hl]; · iexact Hl
  iexact Hg

end Call

/-! ## The host's operations -/

abbrev a0' : DevRef τ sig := Proc.devRef .tc (main_arg0 : Ref sig .tc)
abbrev a1' : DevRef τ sig := Proc.devRef .tc (main_arg1 : Ref sig .tc)
abbrev c' : DevRef τ sig := Proc.devRef .tc (main_c : Ref sig .tc)
abbrev cv' : DevRef τ sig := Proc.devRef .tc (main_call0_v0 : Ref sig .tc)
abbrev k' : DevRef τ sig := Proc.devRef .tc (main_v0 : Ref sig .tc)
abbrev t' : DevRef τ sig := Proc.devRef .tc (main_v1 : Ref sig .tc)
abbrev p' : DevRef τ sig := Proc.devRef .tc (main_v2 : Ref sig .tc)
abbrev o' : DevRef τ sig := Proc.devRef .tc (main_v3 : Ref sig .tc)

abbrev opC : HloOp τ sig (Elt F) := StableHlo.nullary main_c (constantI S_ 32 0#32)
abbrev opCv : HloOp τ sig (Elt F) := StableHlo.unary main_c main_call0_v0 id
abbrev opPad : HloOp τ sig (Elt F) := StableHlo.binary main_arg0 main_call0_v0 main_v0
  (fun x v => pad S4096x128 ![0, 0] ![0, 78] ![0, 0] x v pads_S4096x50_S4096x128_000_0780 h_S_)
abbrev opTr : HloOp τ sig (Elt F) := StableHlo.unary main_arg1 main_v1
  ((transpose S64x1000000 [1, 0] · transposes_S1000000x64_S64x1000000_1_0) : (⟨S1000000x64, .f32⟩ : BufTy).Contents (Elt F) → (⟨S64x1000000, .f32⟩ : BufTy).Contents (Elt F))

abbrev S8 : Finset (DevRef τ sig) := {a0', a1', c', cv', k', t', p', o'}

theorem hC : (opC (F := F)).bufs ⊆ S8 := show ({c'} : Finset (DevRef τ sig)) ⊆ S8 by decide
theorem hCv : (opCv (F := F)).bufs ⊆ S8 := show ({c', cv'} : Finset (DevRef τ sig)) ⊆ S8 by decide
theorem hPad : (opPad (F := F)).bufs ⊆ S8 := show ({a0', cv', k'} : Finset (DevRef τ sig)) ⊆ S8 by decide
theorem hTr : (opTr (F := F)).bufs ⊆ S8 := show ({a1', t'} : Finset (DevRef τ sig)) ⊆ S8 by decide

omit [FloatOps F] in
theorem held_S8 (d : Dev nD) (W : Valuation τ sig (Elt F)) :
    (held (SparseCore.T d) S8 W : sProp 𝕄)
      = iprop(((SparseCore.T d).loc main_arg0 ↦{fullShare} W a0') ∗ ((SparseCore.T d).loc main_arg1 ↦{fullShare} W a1')
          ∗ ((SparseCore.T d).loc main_c ↦{fullShare} W c') ∗ ((SparseCore.T d).loc main_call0_v0 ↦{fullShare} W cv')
          ∗ (kLoc d ↦{fullShare} W k') ∗ ((d.tc : Thread nD τ).loc main_v1 ↦{fullShare} W t') ∗ (tLoc d ↦{fullShare} W p') ∗ oLoc d ↦{fullShare} W o') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscoped_held (d : Dev nD) (W : Valuation τ sig (Elt F)) (f : (b : Ref sig .tc) → Buf (Elt F) ((d.tc : Thread nD τ).loc b)) (hf : ∀ b, f b = W (Proc.devRef .tc b)) :
    (unscopedBufs d f : sProp 𝕄) = held (SparseCore.T d) S8 W := by
  rw [held_S8]
  unfold unscopedBufs
  rw [show (Finset.univ.filter fun b : Ref sig .tc => ¬ b.isScoped) = {main_arg0, main_arg1, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  simp only [hf]

/-- The launch valuation; and after the four operations. -/
def V0 (d : Dev nD) : Valuation τ sig (Elt F) := fun b => m (d, b)
def V4 (d : Dev nD) : Valuation τ sig (Elt F) := (opTr (F := F)).result ((opPad (F := F)).result ((opCv (F := F)).result ((opC (F := F)).result (V0 m d))))

theorem V4_a0 (d : Dev nD) : V4 m d a0' = m ((SparseCore.T d).loc main_arg0) := by
  unfold V4
  rw [StableHlo.unary_result_ne (h := by decide), StableHlo.binary_result_ne (h := by decide), StableHlo.unary_result_ne (h := by decide), StableHlo.nullary_result_ne (h := by decide)]
  rfl
theorem V4_a1 (d : Dev nD) : V4 m d a1' = m ((SparseCore.T d).loc main_arg1) := by
  unfold V4
  rw [StableHlo.unary_result_ne (h := by decide), StableHlo.binary_result_ne (h := by decide), StableHlo.unary_result_ne (h := by decide), StableHlo.nullary_result_ne (h := by decide)]
  rfl
theorem V4_o (d : Dev nD) : V4 m d o' = m (oLoc d) := by
  unfold V4
  rw [StableHlo.unary_result_ne (h := by decide), StableHlo.binary_result_ne (h := by decide), StableHlo.unary_result_ne (h := by decide), StableHlo.nullary_result_ne (h := by decide)]
  rfl
theorem V4_k (d : Dev nD) : V4 m d k' = kV m d := by
  unfold V4 kV
  rw [StableHlo.unary_result_ne (h := by decide), StableHlo.binary_result, StableHlo.unary_result, StableHlo.nullary_result,
    StableHlo.unary_result_ne (h := by decide), StableHlo.nullary_result_ne (h := by decide)]
  rfl
theorem V4_t (d : Dev nD) : V4 m d t' = aV m d := by
  unfold V4 aV
  rw [StableHlo.unary_result, StableHlo.binary_result_ne (h := by decide), StableHlo.unary_result_ne (h := by decide), StableHlo.nullary_result_ne (h := by decide)]
  rfl

theorem held_V4 (d : Dev nD) :
    (held (SparseCore.T d) S8 ((opTr (F := F)).result ((opPad (F := F)).result ((opCv (F := F)).result ((opC (F := F)).result (V0 m d))))) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_c ↦{fullShare} V4 m d c') ∗ ((SparseCore.T d).loc main_call0_v0 ↦{fullShare} V4 m d cv')
          ∗ (kLoc d ↦{fullShare} kV m d) ∗ ((d.tc : Thread nD τ).loc main_v1 ↦{fullShare} aV m d) ∗ (tLoc d ↦{fullShare} V4 m d p') ∗ oLoc d ↦{fullShare} m (oLoc d)) := by
  show held (SparseCore.T d) S8 (V4 m d) = _
  rw [held_S8, V4_a0, V4_a1, V4_k, V4_t, V4_o]

/-! ## The program of the TensorCore -/

/-- What it leaves: the two arguments as they were, the result. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ oLoc d ↦{fullShare} rV m d)

section Main

variable [∀ e, Nonempty (Elt F e)]

omit [∀ e, Nonempty (Elt F e)] in
/-- The TensorCore's state before the call, with what it owes apart. -/
theorem tcSt_open (d : Dev nD) : (K (F := F)).tcSt EH d 0
    ⊢ iprop(∃ b : ℕ, (∃ W, ⌜(K (F := F)).WBelow (SparseCore.T d) W b⌝ ∗ owes (SparseCore.T d) ((K (F := F)).Otc d 0) W)
        ∗ ((∃ W, ⌜(K (F := F)).WBelow (SparseCore.T d) W b⌝ ∗ owes (SparseCore.T d) ((K (F := F)).Otc d 0) W) -∗ ((K (F := F)).tcSt EH d 0 : sProp 𝕄))) := by
  unfold SparseCore.Cfg.tcSt
  iintro ⟨HW, Hst⟩
  iexists _
  isplitl [HW]; · iexact HW
  iintro HW
  isplitl [HW]; · iexact HW
  iexact Hst

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held d (V0 m d) (fun b => m ((SparseCore.T d).loc b)) (fun _ => rfl)]
  simp only [main, fn_pad.body, wp_bind, wp_pure]
  iintro ⟨#Hctx, Hst, ⟨Hb, Hheld, Hts, -⟩, HG⟩
  iapply (wp_hlo_within 𝒱 (SparseCore.T d) none Set.univ (op := opC) (S := S8) hC (V := V0 m d)) $$ [Hb Hheld]
  · isplitl [Hb] <;> iassumption
  iintro ⟨Hb, Hheld⟩
  rw [wp_ret]; imodintro
  iapply (wp_hlo_within 𝒱 (SparseCore.T d) none Set.univ (op := opCv) (S := S8) hCv (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S8) hPad (V := (opCv (F := F)).result ((opC (F := F)).result (V0 m d)))) $$ [Hb Hheld]
  · isplitl [Hb] <;> iassumption
  iintro ⟨Hb, Hheld⟩
  rw [wp_ret]; imodintro
  imodintro
  iapply (wp_hlo_within 𝒱 (SparseCore.T d) none Set.univ (op := opTr) (S := S8) hTr (V := (opPad (F := F)).result ((opCv (F := F)).result ((opC (F := F)).result (V0 m d))))) $$ [Hb Hheld]
  · isplitl [Hb] <;> iassumption
  iintro ⟨Hb, Hheld⟩
  rw [wp_ret]; imodintro
  ihave Hh := (Entails.of_eq (held_V4 (F := F) m d)) $$ Hheld
  icases Hh with ⟨H0, H1, -, -, Hk, Ht, Hp, Ho⟩
  ihave #Hlev := (SparseCore.Cfg.ctx_levAts (K := K (F := F)) (EH := EH) (P := P m) κ) $$ Hctx
  ihave Hst := (tcSt_open (F := F) d) $$ Hst
  icases Hst with ⟨%b, HW, Hst⟩
  iapply (call_wp (aV m) (fun c => V4 m c p') b d _)
  isplitr [Hb HW Ht Hp HG]
  swap
  · isplitl [Hb]; · iexact Hb
    isplitl [HW Ht Hp]
    · unfold reg
      simp only
      isplitl [Ht]; · iexact Ht
      isplitl [Hp]; · iexact Hp
      iexact HW
    isplitr; · iexact Hlev
    iexact HG
  iintro ⟨Hb, HR⟩
  ihave HR := (show (reg (aV m) (fun c => V4 m c p') b).post d ⊢ iprop(((d.tc : Thread nD τ).loc main_v1 ↦{fullShare} aV m d) ∗ (tLoc d ↦{fullShare} tV m d)
    ∗ ∃ W, ⌜(K (F := F)).WBelow (SparseCore.T d) W b⌝ ∗ owes (SparseCore.T d) ((K (F := F)).Otc d 0) W) from BI.Entails.refl _) $$ HR
  icases HR with ⟨Ht, Hp, HW⟩
  iapply ((K (F := F)).wp_run (D (F := F)) 𝒱 (EH := EH) (P := P m) κ d 0) $$ [HW Hst Hk Hp Ho Hb Hts H0 H1]
  isplitr; · iexact Hctx
  isplitl [HW Hst]
  · iapply Hst; iexact HW
  isplitl [Hk Hp Ho]
  · rw [st0_eq]
    isplitl [Hk]; · iexact Hk
    isplitl [Hp]; · iexact Hp
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [H0]; · iexact H0
    isplitl [H1]; · iexact H1
    iexact Ho
  isplitl [Hb] <;> iassumption

/-! ## The run -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (oLoc d) = rV m d

theorem hfin (d : Dev nD) (s' : Phys nD τ sig (Elt F)) : iprop(FIN m d ∗ SI s') ⊢ (⌜fq m d s'⌝ : sProp 𝕄) := by
  iintro ⟨⟨H0, H1, Ho⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := oLoc d) (I := Finset.univ) (q := fullShare) (f := rV m d)) $$ [HSI Ho]
  · isplitl [HSI] <;> iassumption
  icases H with %h2
  ipureintro; exact ⟨funext fun i => h0 i (Finset.mem_univ i), funext fun i => h1 i (Finset.mem_univ i), funext fun i => h2 i (Finset.mem_univ i)⟩

def QC : PUnit × MemSt nD τ sig (Elt F) → Prop := fun r => (∀ c : Dev nD, r.2.mem ((SparseCore.T c).loc main_arg0) = m ((SparseCore.T c).loc main_arg0)
  ∧ r.2.mem ((SparseCore.T c).loc main_arg1) = m ((SparseCore.T c).loc main_arg1) ∧ r.2.mem (oLoc c) = rV m c) ∧ r.2.sem = fun _ => 0

/-- From token ids in range, the program runs to the end: the arguments unchanged, the result the tiles' rows, every counter at zero. -/
theorem run_main (hk : ∀ d, ∀ j : S4096x128.Idx, (kV m d j).toNat < 1000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hk)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Main

end Cert.Proof.KernelIdeal
-- ==== Proof.Pre.lean ====
/-
  What the two preconditions say of the inputs: every token is a row number of the table, and row 0 of the table is finite.
-/
module

public import proofs.«01_k».proof.Pre_in_range
public import proofs.«01_k».proof.Pre_in_range_pad_finite
public import Idealize.ShloMosaic.Lib.ReduceAll
public import Idealize.ShloMosaic.Lib.IdealHost
public import Idealize.ShloMosaic.Lib.KernelVsHost

@[expose] public section

noncomputable section

namespace Cert.Proof.Pre

open Idealize.ShloMosaic Idealize.ShloMosaic.ValueIdx

/-- The arrays' shapes. -/
abbrev STok : Shape := ⟨2, ![4096, 50]⟩
abbrev STab : Shape := ⟨2, ![1000000, 64]⟩
abbrev SPad : Shape := ⟨2, ![4096, 128]⟩
abbrev SOne : Shape := ⟨0, ![]⟩

variable {F : FTy → Type} [FloatOps F]

/-- There is one index into a scalar. -/
instance : Subsingleton SOne.Idx := ⟨fun a b => funext fun x => x.elim0⟩

/-- A word that is at least zero and below a million, both read signed, is below a million read unsigned. -/
theorem word_lt (x : BitVec 32) (h : IntOp.andi (IntOp.cmpi .sge x 0#32) (IntOp.cmpi .slt x 1000000#32) = 1#1) : x.toNat < 1000000 := by
  obtain ⟨h0, h1⟩ := IntOp.andi_eq_one.1 h
  rw [IntOp.cmpi_sge, show (0#32 : BitVec 32).toInt = 0 from by decide] at h0
  rw [IntOp.cmpi_slt, show (1000000#32 : BitVec 32).toInt = 1000000 from by decide] at h1
  rw [BitVec.toInt_eq_toNat_cond] at h0 h1
  have := x.isLt
  split at h0 <;> omega

/-- The first precondition: every token is below a million. -/
theorem tok_lt [Cert.Pre_in_range.Facts] (tok : IVec STok 32) (tab : FVec F STab .f32)
    (h : Cert.Pre_in_range.fn (F := F) tok tab = fun _ => 1#1) (j : STok.Idx) : (tok j).toNat < 1000000 :=
  word_lt _ (Host.reduce_andi_all _ _ _ _ ix0 (congrFun h ix0) j)

/-- The second precondition: every token is below a million. -/
theorem tok_lt' [Cert.Pre_in_range_pad_finite.Facts] (tok : IVec STok 32) (tab : FVec F STab .f32)
    (h : Cert.Pre_in_range_pad_finite.fn (F := F) tok tab = fun _ => 1#1) (j : STok.Idx) : (tok j).toNat < 1000000 :=
  word_lt _ (Host.reduce_andi_all _ _ _ _ ix0 (IntOp.andi_eq_one.1 (congrFun h ix0)).1 j)

/-- The pattern of infinity is the top of the extended reals. -/
theorem inf_f32 : Ideal.ofBits .f32 0x7F800000#32 = ⊤ := by simp [Ideal.ofBits, Ideal.ieee]

/-- The second precondition: row 0 of the table is real numbers. -/
theorem row0_real [Cert.Pre_in_range_pad_finite.Facts] (tok : IVec STok 32) (tab : FVec Ideal STab .f32)
    (h : Cert.Pre_in_range_pad_finite.fn (F := Ideal) tok tab = fun _ => 1#1) (j : STab.Idx) (h0 : (j 0).val = 0) :
    ∃ r : ℝ, tab j = (r : EReal) := by
  have h2 := Host.reduce_andi_all _ _ _ _ ix0 (IntOp.andi_eq_one.1 (congrFun h ix0)).2 (ix2 0 ⟨(j 1).val, idx2_lt1 j⟩)
  have h3 : Ideal.cmp .olt (max (tab j) (-(tab j))) (Ideal.ofBits .f32 0x7F800000#32) = 1#1 := by
    refine Eq.trans ?_ h2
    rw [cmpf_apply]
    have e : extractStridedSlice Cert.Pre_in_range_pad_finite.S1x64 ![0, 0] tab Cert.Pre_in_range_pad_finite.Facts.slices_S1000000x64_S1x64_0_0 (ix2 0 ⟨(j 1).val, idx2_lt1 j⟩) = tab j := by
      refine congrArg tab (funext fun a => Fin.ext ?_)
      match a with
      | ⟨0, _⟩ => exact h0.symm
      | ⟨1, _⟩ => exact Nat.zero_add _
    show _ = Ideal.cmp .olt (max (extractStridedSlice Cert.Pre_in_range_pad_finite.S1x64 ![0, 0] tab _ _) (-(extractStridedSlice Cert.Pre_in_range_pad_finite.S1x64 ![0, 0] tab _ _))) _
    rw [e]
    rfl
  rw [inf_f32] at h3
  have h4 : max (tab j) (-(tab j)) < ⊤ := by
    by_contra hc
    simp [Ideal.cmp, hc] at h3
  generalize (tab j : EReal) = x at h4
  induction x using EReal.rec with
  | bot => simp at h4
  | coe r => exact ⟨r, rfl⟩
  | top => simp at h4

/-- A token array padded on the right with zeros: the token in the first fifty columns. -/
theorem pad_in (tok : IVec STok 32) (h : STok.Pads ![0, 0] ![0, 78] ![0, 0] SPad) (hu : 0 < SOne.numel) (j : SPad.Idx) (k : STok.Idx)
    (h0 : (j 0).val = (k 0).val) (h1 : (j 1).val = (k 1).val) :
    pad SPad ![0, 0] ![0, 78] ![0, 0] tok (constantI SOne 32 0#32) h hu j = tok k := by
  refine pad_apply_of_inside _ _ _ tok _ h hu j k fun a => ?_
  match a with
  | ⟨0, _⟩ => exact h0.trans (by show (k 0).val = 0 + (k 0).val * (0 + 1); omega)
  | ⟨1, _⟩ => exact h1.trans (by show (k 1).val = 0 + (k 1).val * (0 + 1); omega)

/-- A token array padded on the right with zeros: zero in the other columns. -/
theorem pad_out (tok : IVec STok 32) (h : STok.Pads ![0, 0] ![0, 78] ![0, 0] SPad) (hu : 0 < SOne.numel) (j : SPad.Idx)
    (h1 : 50 ≤ (j 1).val) :
    pad SPad ![0, 0] ![0, 78] ![0, 0] tok (constantI SOne 32 0#32) h hu j = 0#32 := by
  refine pad_apply_of_not_inside _ _ _ tok _ h hu j 1 fun hc => ?_
  have h2 : ((j 1).val - 0) / (0 + 1) < 50 := hc.2.2
  rw [Nat.div_one] at h2
  omega

/-- Every element of the padded tokens is below a million. -/
theorem pad_lt (tok : IVec STok 32) (h : STok.Pads ![0, 0] ![0, 78] ![0, 0] SPad) (hu : 0 < SOne.numel)
    (ht : ∀ j, (tok j).toNat < 1000000) (j : SPad.Idx) :
    (pad SPad ![0, 0] ![0, 78] ![0, 0] tok (constantI SOne 32 0#32) h hu j).toNat < 1000000 := by
  rcases Nat.lt_or_ge (j 1).val 50 with hj | hj
  · rw [pad_in tok h hu j (ix2 ⟨(j 0).val, idx2_lt0 j⟩ ⟨(j 1).val, hj⟩) rfl rfl]
    exact ht _
  · rw [pad_out tok h hu j hj]
    decide

end Cert.Proof.Pre

end
-- ==== Proof.Ref.lean ====
/-
  The reference's result, element by element: the sum over a batch row of the table rows its tokens name, padding left out, over
  the number of tokens that are not padding.
-/
module

public import proofs.«01_k».proof.Proof.Gen.ReferenceIdeal.Run
public import proofs.«01_k».proof.Proof.Pre
public import Idealize.ShloMosaic.Lib.Pointwise.Reduce

@[expose] public section

noncomputable section

namespace Cert.Proof.Ref

open Cert.ReferenceIdeal Cert.ReferenceIdeal.Gen
open Idealize.ShloMosaic
open Idealize.ShloMosaic.ValueIdx (eq_zero_of_ne_one select_apply select_one hostDivf_apply hostReduceAdd_apply)

variable {F : FTy → Type} [FloatOps F]

/-- The table rows the reference reads: a negative token counts from the table's end. -/
def rows (tok : IVec S4096x50 32) : IVec S4096x50x1 32 :=
  broadcastInDim S4096x50x1 ![0, 1] bcast_S4096x50_S4096x50x1_0_1 (select (cmpi .slt tok (broadcastInDim S4096x50 ![] bcast_S_S4096x50 (constantI S_ 32 0#32))) (addi tok (broadcastInDim S4096x50 ![] bcast_S_S4096x50 (constantI S_ 32 1000000#32))) tok)

/-- Which of those rows are in the table. -/
def inTab (tok : IVec S4096x50 32) : IVec S4096x50 1 :=
  Host.reduce IntOp.andi (andi (cmpi .sge (rows tok) (broadcastInDim S4096x50x1 ![] bcast_S_S4096x50x1 (constantI S_ 32 0#32))) (cmpi .sle (rows tok) (broadcastInDim S4096x50x1 ![0, 1, 2] bcast_S1x1x1_S4096x50x1_0_1_2 (broadcastInDim S1x1x1 ![2] bcast_S1_S1x1x1_2 (constantI S1 32 999999#32))))) (constantI S_ 1 1#1) reducesTo_S4096x50x1_S4096x50_d2 h_S_

/-- The rows gathered. -/
def emb (tok : IVec S4096x50 32) (tab : FVec F S1000000x64 .f32) : FVec F S4096x50x64 .f32 :=
  select (broadcastInDim S4096x50x64 ![0, 1] bcast_S4096x50_S4096x50x64_0_1 (inTab tok)) (Host.gather gather_S1000000x64_S4096x50x1_S4096x50x64_2_0_n_n_0_2_164 tab (rows tok)) (broadcastInDim S4096x50x64 ![] bcast_S_S4096x50x64 (constant S_ .f32 0x7FC00000#32))

/-- One where a token is not padding. -/
def mask (tok : IVec S4096x50 32) : FVec F S4096x50x1 .f32 :=
  broadcastInDim S4096x50x1 ![0, 1] bcast_S4096x50_S4096x50x1_0_1 (uitofp .f32 (cmpi .ne tok (broadcastInDim S4096x50 ![] bcast_S_S4096x50 (constantI S_ 32 0#32))))

/-- The reference's result. -/
def out (tok : IVec S4096x50 32) (tab : FVec F S1000000x64 .f32) : FVec F S4096x64 .f32 :=
  Host.divf (Host.reduceAdd (mulf (emb tok tab) (broadcastInDim S4096x50x64 ![0, 1, 2] bcast_S4096x50x1_S4096x50x64_0_1_2 (mask tok))) (constant S_ .f32 0x00000000#32) reducesTo_S4096x50x64_S4096x64_d1 h_S_)
    (broadcastInDim S4096x64 ![0, 1] bcast_S4096x1_S4096x64_0_1 (maximumf (Host.reduceAdd (mask tok) (constant S_ .f32 0x00000000#32) reducesTo_S4096x50x1_S4096x1_d1 h_S_) (broadcastInDim S4096x1 ![] bcast_S_S4096x1 (constant S_ .f32 0x3F800000#32))))

/-! ## Element by element -/

section Bcast
variable {α : Type}

/-- The batch row and the place in it of an index of the gathered rows. -/
abbrev ixA (y : S4096x50x1.Idx) : S4096x50.Idx := ix2 ⟨(y 0).val, (y 0).isLt⟩ ⟨(y 1).val, (y 1).isLt⟩
/-- The same for an index with columns. -/
abbrev ixB (y : S4096x50x64.Idx) : S4096x50.Idx := ix2 ⟨(y 0).val, (y 0).isLt⟩ ⟨(y 1).val, (y 1).isLt⟩
/-- The same, the column made the only one. -/
abbrev ixC (y : S4096x50x64.Idx) : S4096x50x1.Idx := ix3 ⟨(y 0).val, (y 0).isLt⟩ ⟨(y 1).val, (y 1).isLt⟩ 0
/-- The batch row of an index of the result. -/
abbrev ixD (y : S4096x64.Idx) : S4096x1.Idx := ix2 ⟨(y 0).val, (y 0).isLt⟩ 0

/-- A column added. -/
theorem bcA (x : S4096x50.Idx → α) (y : S4096x50x1.Idx) : broadcastInDim S4096x50x1 ![0, 1] bcast_S4096x50_S4096x50x1_0_1 x y = x (ixA y) := by
  unfold broadcastInDim
  refine congrArg x (funext fun a => Fin.ext ?_)
  match a with
  | ⟨0, _⟩ => rfl
  | ⟨1, _⟩ => rfl
/-- Columns added. -/
theorem bcB (x : S4096x50.Idx → α) (y : S4096x50x64.Idx) : broadcastInDim S4096x50x64 ![0, 1] bcast_S4096x50_S4096x50x64_0_1 x y = x (ixB y) := by
  unfold broadcastInDim
  refine congrArg x (funext fun a => Fin.ext ?_)
  match a with
  | ⟨0, _⟩ => rfl
  | ⟨1, _⟩ => rfl
/-- One column repeated. -/
theorem bcC (x : S4096x50x1.Idx → α) (y : S4096x50x64.Idx) : broadcastInDim S4096x50x64 ![0, 1, 2] bcast_S4096x50x1_S4096x50x64_0_1_2 x y = x (ixC y) := by
  unfold broadcastInDim
  refine congrArg x (funext fun a => Fin.ext ?_)
  match a with
  | ⟨0, _⟩ => rfl
  | ⟨1, _⟩ => rfl
  | ⟨2, _⟩ => rfl
/-- One column of the result repeated. -/
theorem bcD (x : S4096x1.Idx → α) (y : S4096x64.Idx) : broadcastInDim S4096x64 ![0, 1] bcast_S4096x1_S4096x64_0_1 x y = x (ixD y) := by
  unfold broadcastInDim
  refine congrArg x (funext fun a => Fin.ext ?_)
  match a with
  | ⟨0, _⟩ => rfl
  | ⟨1, _⟩ => rfl

end Bcast

/-- A row number is the token itself, when that is not negative. -/
theorem rows_apply (tok : IVec S4096x50 32) (ht : ∀ j, (tok j).toNat < 1000000) (y : S4096x50x1.Idx) : rows tok y = tok (ixA y) := by
  refine (bcA _ y).trans ?_
  show Scalar.select (IntOp.cmpi .slt (tok (ixA y)) 0#32) (IntOp.addi (tok (ixA y)) 1000000#32) (tok (ixA y)) = _
  have h0 : IntOp.cmpi .slt (tok (ixA y)) 0#32 = 0#1 := by
    refine eq_zero_of_ne_one fun h => ?_
    rw [IntOp.cmpi_slt, show (0#32 : BitVec 32).toInt = 0 from by decide, BitVec.toInt_eq_toNat_cond] at h
    have := ht (ixA y)
    split at h <;> omega
  rw [h0]
  rfl

/-- Every row number is in the table. -/
theorem inTab_apply (tok : IVec S4096x50 32) (ht : ∀ j, (tok j).toNat < 1000000) (y : S4096x50.Idx) : inTab tok y = 1#1 := by
  refine Host.reduce_andi_one _ _ _ _ y rfl fun i => ?_
  show IntOp.andi (IntOp.cmpi .sge (rows tok i) 0#32) (IntOp.cmpi .sle (rows tok i) 999999#32) = 1#1
  rw [rows_apply tok ht]
  have := ht (ixA i)
  refine IntOp.andi_eq_one.2 ⟨?_, ?_⟩
  · rw [IntOp.cmpi_sge, show (0#32 : BitVec 32).toInt = 0 from by decide, BitVec.toInt_eq_toNat_cond]
    split <;> omega
  · rw [IntOp.cmpi_sle, show (999999#32 : BitVec 32).toInt = 999999 from by decide, BitVec.toInt_eq_toNat_cond]
    split <;> omega

/-- The table element at a row number and a column. -/
abbrev ixTab (r : ℕ) (c : Fin 64) : S1000000x64.Idx := ix2 ⟨r % 1000000, Nat.mod_lt _ (by decide)⟩ c

/-- The gather at a batch row, a place in it and a column. -/
theorem gather_apply {α : Type} (tab : S1000000x64.Idx → α) (idx : IVec S4096x50x1 32) (y : S4096x50x64.Idx) (h : (idx (ixC y)).toNat < 1000000) :
    Host.gather gather_S1000000x64_S4096x50x1_S4096x50x64_2_0_n_n_0_2_164 tab idx y = tab (ixTab (idx (ixC y)).toNat ⟨(y 2).val, (y 2).isLt⟩) := by
  unfold Host.gather
  refine congrArg tab (funext fun a => Fin.ext ?_)
  show (gather_S1000000x64_S4096x50x1_S4096x50x64_2_0_n_n_0_2_164).start y idx a + (gather_S1000000x64_S4096x50x1_S4096x50x64_2_0_n_n_0_2_164).batchCoord y a
      + (gather_S1000000x64_S4096x50x1_S4096x50x64_2_0_n_n_0_2_164).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x64_S4096x50x1_S4096x50x64_2_0_n_n_0_2_164).startIndexMap from List.mem_singleton.mpr rfl)]
    have hsi : (gather_S1000000x64_S4096x50x1_S4096x50x64_2_0_n_n_0_2_164).siIdx y ⟨List.idxOf (0 : Fin 2) (gather_S1000000x64_S4096x50x1_S4096x50x64_2_0_n_n_0_2_164).startIndexMap,
        List.idxOf_lt_length_iff.2 (List.mem_singleton.mpr rfl)⟩ = ixC y := by
      funext b; refine Fin.ext ?_
      match b with
      | ⟨0, _⟩ => rfl
      | ⟨1, _⟩ => rfl
      | ⟨2, _⟩ => rfl
    rw [hsi]
    show min (idx (ixC y)).toInt.toNat (1000000 - 1) = (idx (ixC y)).toNat % 1000000
    rw [BitVec.toInt_eq_toNat_cond]
    split <;> omega
  · rw [GatherDims.batchCoord_eq_zero _ _ _ List.not_mem_nil]
    unfold GatherDims.start
    rw [dif_neg (show ¬(1 : Fin 2) ∈ (gather_S1000000x64_S4096x50x1_S4096x50x64_2_0_n_n_0_2_164).startIndexMap from by decide)]
    show 0 + 0 + _ = (y 2).val
    rw [Nat.zero_add]
    unfold GatherDims.offCoord
    rw [dif_pos (by decide)]
    rfl

/-- A gathered element: the table's, at the row the token names. -/
theorem emb_apply (tok : IVec S4096x50 32) (tab : FVec F S1000000x64 .f32) (ht : ∀ j, (tok j).toNat < 1000000) (y : S4096x50x64.Idx) :
    emb tok tab y = tab (ixTab (tok (ixB y)).toNat ⟨(y 2).val, (y 2).isLt⟩) := by
  refine (select_apply _ _ _ y).trans ?_
  rw [bcB, inTab_apply tok ht, select_one]
  have e := rows_apply tok ht (ixC y)
  rw [gather_apply tab (rows tok) y (by rw [e]; exact ht _), e]
  rfl

/-- One where the word is not zero, as an extended real. -/
def ind (x : BitVec 32) : EReal := if x = 0#32 then 0 else 1

/-- The mask at a place of a batch row. -/
theorem mask_apply (tok : IVec S4096x50 32) (y : S4096x50x1.Idx) : mask (F := Ideal) tok y = ind (tok (ixA y)) := by
  refine (bcA _ y).trans ?_
  show (((IntOp.cmpi .ne (tok (ixA y)) 0#32).toNat : ℝ) : EReal) = _
  unfold ind
  by_cases h : tok (ixA y) = 0#32
  · rw [if_pos h, h]; simp [IntOp.cmpi]
  · rw [if_neg h]; simp [IntOp.cmpi, h]

/-- THE REFERENCE'S RESULT at a batch row and a column. -/
theorem out_apply (tok : IVec S4096x50 32) (tab : FVec Ideal S1000000x64 .f32) (ht : ∀ j, (tok j).toNat < 1000000) (y : S4096x64.Idx) :
    out (F := Ideal) tok tab y
      = Ideal.div (∑ t : Fin 50, (tab (ixTab (tok (ix2 ⟨(y 0).val, (y 0).isLt⟩ t)).toNat ⟨(y 1).val, (y 1).isLt⟩) : EReal) * ind (tok (ix2 ⟨(y 0).val, (y 0).isLt⟩ t)))
          (max (∑ t : Fin 50, ind (tok (ix2 ⟨(y 0).val, (y 0).isLt⟩ t))) 1) := by
  unfold out
  rw [hostDivf_apply, bcD]
  show Ideal.div _ (max (Host.reduceAdd (mask (F := Ideal) tok) _ _ _ (ixD y)) (Ideal.ofBits .f32 0x3F800000#32)) = _
  rw [Ideal.ofBits_one_f32, hostReduceAdd_apply, hostReduceAdd_apply, Ideal.hostReduceAdd_r3_a1, Ideal.hostReduceAdd_r3_a1]
  have hz : (constant (F := Ideal) S_ .f32 0x00000000#32 : S_.Idx → EReal) (Shape.Idx.first h_S_) = 0 := by
    show Ideal.ofBits .f32 0x00000000#32 = 0
    simp [Ideal.ofBits, Ideal.ieee]
  rw [hz, zero_add, zero_add]
  refine congrArg₂ Ideal.div ?_ (congrArg (max · (1 : EReal)) ?_)
  · refine Finset.sum_congr rfl fun t _ => ?_
    show (emb (F := Ideal) tok tab _ : EReal) * broadcastInDim S4096x50x64 ![0, 1, 2] bcast_S4096x50x1_S4096x50x64_0_1_2 (mask (F := Ideal) tok) _ = _
    rw [emb_apply tok tab ht, bcC, mask_apply]
    rfl
  · refine Finset.sum_congr rfl fun t _ => ?_
    rw [mask_apply]
    rfl

/-- The reference's run: its result is `out` of the arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Ref

end
-- ==== Proof.Mean.lean ====
/-
  The arithmetic of the mean, on the extended reals: the sum over every token, less the padding's share, is the sum over the tokens
  that are not padding.
-/
module

public import proofs.«01_k».proof.Proof.Ref

@[expose] public section

namespace Cert.Proof.Mean

open Idealize.ShloMosaic
open Cert.Proof.Ref (ind)

/-- How many words of a list are not zero. -/
def cnt (k : ℕ → BitVec 32) (n : ℕ) : ℕ := ∑ t ∈ Finset.range n, if k t = 0#32 then 0 else 1

theorem cnt_le (k : ℕ → BitVec 32) (n : ℕ) : cnt k n ≤ n := by
  induction n with
  | zero => simp [cnt]
  | succ n ih =>
    unfold cnt at *
    rw [Finset.sum_range_succ]
    split <;> omega

/-- The indicators add up to that number. -/
theorem sum_ind (k : ℕ → BitVec 32) (n : ℕ) : ∑ t ∈ Finset.range n, ind (k t) = ((cnt k n : ℝ) : EReal) := by
  induction n with
  | zero => simp [cnt]
  | succ n ih =>
    rw [Finset.sum_range_succ, ih]
    unfold cnt ind
    rw [Finset.sum_range_succ]
    split
    · simp
    · push_cast; rfl

/-- The sum over all the words is the sum over those that are not zero, and one `r` for each that is. -/
theorem sum_split (k : ℕ → BitVec 32) (e : ℕ → EReal) (r : ℝ) (n : ℕ) (h : ∀ t < n, k t = 0#32 → e t = (r : EReal)) :
    ∑ t ∈ Finset.range n, e t = ∑ t ∈ Finset.range n, e t * ind (k t) + (((n - cnt k n : ℝ) * r : ℝ) : EReal) := by
  induction n with
  | zero => simp [cnt]
  | succ n ih =>
    rw [Finset.sum_range_succ, ih (fun t ht => h t (by omega)), Finset.sum_range_succ]
    unfold cnt ind
    rw [Finset.sum_range_succ]
    split
    · rename_i hk
      rw [h n (by omega) hk, mul_zero, add_zero, add_assoc, ← EReal.coe_add]
      congr 2
      push_cast
      ring
    · rw [mul_one, add_right_comm]
      congr 2
      push_cast
      ring

/-- Taking the padding's share out of the mean over every token leaves the mean over the tokens that are not padding. -/
theorem mean_eq (S : EReal) (n a r : ℝ) :
    (S + ((a * r : ℝ) : EReal)) * Ideal.div 1 (max (n : EReal) 1) - ((a : EReal) * Ideal.div 1 (max (n : EReal) 1)) * (r : EReal)
      = Ideal.div S (max (n : EReal) 1) := by
  have hm : max (n : EReal) 1 = ((max n 1 : ℝ) : EReal) := by
    rw [← EReal.coe_one]; exact (EReal.coe_strictMono.monotone.map_max (a := n) (b := 1)).symm
  rw [hm]
  have hp : (0 : ℝ) < max n 1 := lt_of_lt_of_le one_pos (le_max_right _ _)
  generalize max n 1 = q at hp
  have hq : (q : EReal) ≠ 0 := by
    intro h; exact hp.ne' (by exact_mod_cast h)
  unfold Ideal.div
  rw [if_neg hq, if_neg hq, one_mul, ← EReal.coe_inv]
  have hi : 0 < q⁻¹ := inv_pos.2 hp
  generalize q⁻¹ = p at hi
  induction S using EReal.rec with
  | bot => rw [EReal.bot_add, EReal.bot_mul_coe_of_pos hi, ← EReal.coe_mul, ← EReal.coe_mul, EReal.bot_sub]
  | coe s =>
    rw [← EReal.coe_add, ← EReal.coe_mul, ← EReal.coe_mul, ← EReal.coe_mul, ← EReal.coe_sub, ← EReal.coe_mul]
    congr 1
    ring
  | top => rw [EReal.top_add_coe, EReal.top_mul_coe_of_pos hi, ← EReal.coe_mul, ← EReal.coe_mul, EReal.top_sub_coe]

end Cert.Proof.Mean
-- ==== Proof.KernelIdeal.Value.lean ====
/-
  The kernel's result on the extended reals, element by element, and that it is the reference's.
-/
module

public import proofs.«01_k».proof.Proof.KernelIdeal.Launch
public import proofs.«01_k».proof.Proof.Mean

@[expose] public section

noncomputable section

namespace Cert.Proof.KernelIdeal

open Cert.KernelIdeal Cert.KernelIdeal.Gen
open Idealize.ShloMosaic
open Cert.Proof.Mean (cnt cnt_le sum_ind sum_split mean_eq)

/-! ## The layout of sixteen lanes -/

/-- Lane `l`. -/
def lane (l : ℕ) : S16.Idx := fun
  | 0 => ⟨l % 16, Nat.mod_lt _ (by decide)⟩

/-- Sixteen lanes as one row: the row's columns are the lanes. -/
theorem cast16 {α : Type} (x : S1x16.Idx → α) (l : ℕ) : shapeCast S16 x shapeCasts_S1x16_S16 (lane l) = x (ixV l) := by
  refine (shapeCast_dropUnit_apply ![16] x shapeCasts_S1x16_S16 (lane l)).trans (congrArg x (funext fun a => ?_))
  match a with
  | 0 => rfl
  | 1 => rfl

/-- One row as sixteen lanes. -/
theorem castRow {α : Type} (x : S16.Idx → α) (l : ℕ) : shapeCast S1x16 x shapeCasts_S16_S1x16 (ixV l) = x (lane l) := by
  refine (shapeCast_addUnit_apply ![16] x shapeCasts_S16_S1x16 (ixV l)).trans (congrArg x (funext fun a => ?_))
  match a with
  | 0 => rfl

/-! ## The count of a batch row's tokens -/

/-- One where a word is not zero. -/
def one (x : BitVec 32) : ℕ := if x = 0#32 then 0 else 1

/-- One where the word is not zero, as the kernel selects it. -/
theorem sel_one (x : BitVec 32) : Scalar.select (IntOp.cmpi .ne x 0#32) 1#32 0#32 = BitVec.ofNat 32 (one x) := by
  unfold one
  by_cases h : x = 0#32
  · rw [if_pos h, h]; rfl
  · have h2 : (x != 0#32) = true := by simpa using h
    rw [if_neg h]; simp [IntOp.cmpi, h2, Scalar.select]

/-- A lane's count: how many of its four tokens are not padding. -/
theorem cntV_lane (Tk : S128x128.Idx → Elt Ideal .i32) (b l : ℕ) (hl : l < 16) :
    cntV (F := Ideal) v4c v5c (tokVec Tk b 0) (tokVec Tk b 1) (tokVec Tk b 2) (tokVec Tk b 3) (lane l)
      = BitVec.ofNat 32 (one (Tk (ixT b l)) + one (Tk (ixT b (16 + l))) + one (Tk (ixT b (32 + l))) + one (Tk (ixT b (48 + l)))) := by
  have hs (k : ℕ) : select (maskV (F := Ideal) (tokVec Tk b k)) v4c v5c (lane l) = BitVec.ofNat 32 (one (Tk (ixT b (16 * k + l)))) := by
    show Scalar.select (IntOp.cmpi .ne (shapeCast S16 (tokVec Tk b k) shapeCasts_S1x16_S16 (lane l)) 0#32) 1#32 0#32 = _
    rw [cast16]
    have e : tokVec (F := Ideal) Tk b k (ixV l) = Tk (ixT b (16 * k + l)) := by
      show Tk (ixT b (16 * k + l % 16)) = _
      rw [Nat.mod_eq_of_lt hl]
    rw [e]
    exact sel_one _
  show (((0#32 + select (maskV (F := Ideal) (tokVec Tk b 0)) v4c v5c (lane l)) + select (maskV (F := Ideal) (tokVec Tk b 1)) v4c v5c (lane l))
    + select (maskV (F := Ideal) (tokVec Tk b 2)) v4c v5c (lane l)) + select (maskV (F := Ideal) (tokVec Tk b 3)) v4c v5c (lane l) = _
  rw [hs, hs, hs, hs, BitVec.zero_add, ← BitVec.ofNat_add, ← BitVec.ofNat_add, ← BitVec.ofNat_add, Nat.mul_zero, Nat.zero_add]

/-- The sum of sixteen lanes. -/
theorem cntW_eq (c : IVec S16 32) (f : ℕ → ℕ) (h : ∀ l < 16, c (lane l) = BitVec.ofNat 32 (f l)) :
    cntW c = BitVec.ofNat 32 (∑ l ∈ Finset.range 16, f l) := by
  have hs (l : ℕ) (hl : l < 16) (hh : S16.Slices ![l] S1) : extractAt ![0] (extractStridedSlice S1 ![l] c hh) inpos_S1_p0 = BitVec.ofNat 32 (f l) := by
    rw [← h l hl]
    refine congrArg c (funext fun a => Fin.ext ?_)
    match a with
    | 0 => show l + 0 = l % 16; omega
  have e : cntW c = ((((BitVec.ofNat 32 (f 0) + BitVec.ofNat 32 (f 1)) + (BitVec.ofNat 32 (f 2) + BitVec.ofNat 32 (f 3)))
        + ((BitVec.ofNat 32 (f 4) + BitVec.ofNat 32 (f 5)) + (BitVec.ofNat 32 (f 6) + BitVec.ofNat 32 (f 7))))
      + (((BitVec.ofNat 32 (f 8) + BitVec.ofNat 32 (f 9)) + (BitVec.ofNat 32 (f 10) + BitVec.ofNat 32 (f 11)))
        + ((BitVec.ofNat 32 (f 12) + BitVec.ofNat 32 (f 13)) + (BitVec.ofNat 32 (f 14) + BitVec.ofNat 32 (f 15))))) := by
    rw [← hs 0 (by decide) slices_S16_o0_S1, ← hs 1 (by decide) slices_S16_o1_S1, ← hs 2 (by decide) slices_S16_o2_S1, ← hs 3 (by decide) slices_S16_o3_S1,
      ← hs 4 (by decide) slices_S16_o4_S1, ← hs 5 (by decide) slices_S16_o5_S1, ← hs 6 (by decide) slices_S16_o6_S1, ← hs 7 (by decide) slices_S16_o7_S1,
      ← hs 8 (by decide) slices_S16_o8_S1, ← hs 9 (by decide) slices_S16_o9_S1, ← hs 10 (by decide) slices_S16_o10_S1, ← hs 11 (by decide) slices_S16_o11_S1,
      ← hs 12 (by decide) slices_S16_o12_S1, ← hs 13 (by decide) slices_S16_o13_S1, ← hs 14 (by decide) slices_S16_o14_S1, ← hs 15 (by decide) slices_S16_o15_S1]
    rfl
  rw [e]
  simp only [← BitVec.ofNat_add]
  congr 1
  simp only [Finset.sum_range_succ, Finset.sum_range_zero]
  omega

/-- A batch row's count is the number of its tokens that are not padding, when the columns from 50 on are. -/
theorem cntT_eq (Tk : S128x128.Idx → Elt Ideal .i32) (b : ℕ) (hz : ∀ c, 50 ≤ c → c < 64 → Tk (ixT b c) = 0#32) :
    cntT (F := Ideal) Tk b = BitVec.ofNat 32 (cnt (fun t => Tk (ixT b t)) 50) := by
  refine (cntW_eq _ _ fun l hl => cntV_lane Tk b l hl).trans (congrArg (BitVec.ofNat 32) ?_)
  have h64 : cnt (fun t => Tk (ixT b t)) 64 = cnt (fun t => Tk (ixT b t)) 50 := by
    unfold cnt
    rw [show 64 = 50 + 14 from rfl, Finset.sum_range_add, Nat.add_eq_left]
    refine Finset.sum_eq_zero fun t ht => ?_
    rw [if_pos (hz (50 + t) (by omega) (by have := Finset.mem_range.1 ht; omega))]
  rw [← h64]
  show _ = ∑ t ∈ Finset.range 64, one (Tk (ixT b t))
  rw [show 64 = 16 + 16 + 16 + 16 from rfl, Finset.sum_range_add, Finset.sum_range_add, Finset.sum_range_add, Finset.sum_add_distrib,
    Finset.sum_add_distrib, Finset.sum_add_distrib]

/-! ## The sum of a batch row -/

/-- The sum of the first `n` rows, at a lane. -/
theorem accT_lane (TP : S1000000x128.Idx → Elt Ideal .f32) (Tk : S128x128.Idx → Elt Ideal .i32) (b k l n : ℕ) (hl : l < 16) :
    (accT (F := Ideal) TP Tk b k n (lane l) : EReal) = ∑ t ∈ Finset.range n, (TP (ixP (Tk (ixT b t)).toNat (16 * k + l)) : EReal) := by
  induction n with
  | zero =>
    show Ideal.ofBits .f32 0x00000000#32 = _
    simp [Ideal.ofBits, Ideal.ieee]
  | succ n ih =>
    rw [Finset.sum_range_succ, ← ih]
    show (accT (F := Ideal) TP Tk b k n (lane l) : EReal) + shapeCast S16 (tabVec (F := Ideal) TP (Tk (ixT b n)).toNat k) shapeCasts_S1x16_S16 (lane l) = _
    rw [cast16]
    congr 1
    show TP (ixP _ (16 * k + l % 16)) = _
    rw [Nat.mod_eq_of_lt hl]

/-! ## The result -/

/-- A word no more than fifty is itself read signed. -/
theorem toInt_small (n : ℕ) (h : n ≤ 50) : ((BitVec.ofNat 32 n).toInt : ℝ) = (n : ℝ) := by
  rw [BitVec.toInt_eq_toNat_cond, BitVec.toNat_ofNat, Nat.mod_eq_of_lt (by omega), if_pos (by omega)]
  rfl

/-- The pattern of fifty. -/
theorem fifty_f32 : Ideal.ofBits .f32 0x42480000#32 = ((50 : ℝ) : EReal) := by
  simp [Ideal.ofBits, Ideal.ieee, -EReal.coe_mul]; norm_num

/-- A tile's output element: the mean over the tokens that are not padding, when row 0 of the table is real there. -/
theorem oT_eq (TP : S1000000x128.Idx → Elt Ideal .f32) (Tk : S128x128.Idx → Elt Ideal .i32) (b c : ℕ) (r : ℝ)
    (hz : ∀ c, 50 ≤ c → c < 64 → Tk (ixT b c) = 0#32) (hr : (TP (ixP 0 c) : EReal) = (r : EReal)) :
    (oT (F := Ideal) TP Tk b c : EReal)
      = Ideal.div (∑ t ∈ Finset.range 50, (TP (ixP (Tk (ixT b t)).toNat c) : EReal) * Ref.ind (Tk (ixT b t)))
          (max (∑ t ∈ Finset.range 50, Ref.ind (Tk (ixT b t))) 1) := by
  have hn := cnt_le (fun t => Tk (ixT b t)) 50
  have hk : 16 * (c / 16) + c % 16 = c := Nat.div_add_mod c 16
  have hA : (accT (F := Ideal) TP Tk b (c / 16) 50 (lane c) : EReal) = ∑ t ∈ Finset.range 50, (TP (ixP (Tk (ixT b t)).toNat c) : EReal) := by
    have h := accT_lane TP Tk b (c / 16) (c % 16) 50 (Nat.mod_lt _ (by decide))
    rw [hk] at h
    rw [← h]
    refine congrArg (accT (F := Ideal) TP Tk b (c / 16) 50) (funext fun a => Fin.ext ?_)
    match a with
    | 0 => show c % 16 = c % 16 % 16; omega
  have hR : (row0 (F := Ideal) TP (c / 16) (lane c) : EReal) = (r : EReal) := by
    unfold row0
    rw [cast16, ← hr]
    show TP (ixP 0 (16 * (c / 16) + c % 16)) = _
    rw [hk]
  have hs := sum_split (fun t => Tk (ixT b t)) (fun t => (TP (ixP (Tk (ixT b t)).toNat c) : EReal)) r 50 fun t _ h => by
    show (TP (ixP (Tk (ixT b t)).toNat c) : EReal) = _
    rw [show Tk (ixT b t) = 0#32 from h]
    exact hr
  rw [sum_ind (fun t => Tk (ixT b t)) 50]
  refine Eq.trans ?_ (mean_eq _ (cnt (fun t => Tk (ixT b t)) 50 : ℝ) (50 - cnt (fun t => Tk (ixT b t)) 50 : ℝ) r)
  unfold oT outP
  rw [castRow]
  have hN : (n1V (F := Ideal) (cntT (F := Ideal) Tk b) (lane c) : EReal) = ((cnt (fun t => Tk (ixT b t)) 50 : ℝ) : EReal) := by
    show (((cntT (F := Ideal) Tk b).toInt : ℝ) : EReal) = _
    rw [cntT_eq Tk b hz, toInt_small _ hn]
  have hQ : (recipV (F := Ideal) (cntT (F := Ideal) Tk b) (lane c) : EReal) = Ideal.div 1 (max ((cnt (fun t => Tk (ixT b t)) 50 : ℝ) : EReal) 1) := by
    show Ideal.div (Ideal.ofBits .f32 0x3F800000#32) (max (n1V (F := Ideal) (cntT (F := Ideal) Tk b) (lane c) : EReal) (Ideal.ofBits .f32 0x3F800000#32)) = _
    rw [hN, Ideal.ofBits_one_f32]
  show (accT (F := Ideal) TP Tk b (c / 16) 50 (lane c) : EReal) * recipV (F := Ideal) (cntT (F := Ideal) Tk b) (lane c)
    - ((Ideal.ofBits .f32 0x42480000#32 - n1V (F := Ideal) (cntT (F := Ideal) Tk b) (lane c)) * recipV (F := Ideal) (cntT (F := Ideal) Tk b) (lane c))
      * row0 (F := Ideal) TP (c / 16) (lane c) = _
  rw [hN, hQ, hR, hA, hs, fifty_f32, ← EReal.coe_sub]
  rfl

/-! ## Both results are one -/

variable (m : (ℓ : Loc nD τ sig) → Buf (Elt Ideal) ℓ)

/-- The tokens and the table of a device. -/
abbrev tokOf (d : Dev nD) : IVec S4096x50 32 := m ((SparseCore.T d).loc main_arg0)
abbrev tabOf (d : Dev nD) : FVec Ideal S1000000x64 .f32 := m ((SparseCore.T d).loc main_arg1)

/-- A padded token in the first fifty columns is the token. -/
theorem kV_in (d : Dev nD) (r : Fin 4096) (t : Fin 50) : kV m d (ixK r.val t.val) = tokOf m d (ix2 r t) :=
  Pre.pad_in (tokOf m d) pads_S4096x50_S4096x128_000_0780 h_S_ _ _ (Nat.mod_eq_of_lt r.isLt) (Nat.mod_eq_of_lt (lt_trans t.isLt (by decide)))

/-- A padded token in the other columns is zero. -/
theorem kV_out (d : Dev nD) (r t : ℕ) (h0 : 50 ≤ t) (h1 : t < 64) : kV m d (ixK r t) = 0#32 :=
  Pre.pad_out (tokOf m d) pads_S4096x50_S4096x128_000_0780 h_S_ _ (by show 50 ≤ t % 128; omega)

/-- The padded table's first sixty-four columns are the table's. -/
theorem tV_apply (d : Dev nD) (r : ℕ) (c : Fin 64) : tV m d (ixP r c.val) = tabOf m d (Ref.ixTab r c) := by
  have hc : c.val % 128 = c.val := Nat.mod_eq_of_lt (lt_trans c.isLt (by decide))
  have h1 : tV m d (ixP r c.val) = aV m d (ixA (c.val % 128) (r % 1000000)) := if_pos (show c.val % 128 < 64 by have := c.isLt; omega)
  rw [h1, hc]
  refine congrArg (tabOf m d) (funext fun a => Fin.ext ?_)
  match a with
  | 0 => show r % 1000000 % 1000000 = r % 1000000; omega
  | 1 => show c.val % 64 = c.val; exact Nat.mod_eq_of_lt c.isLt

/-- THE TWO RESULTS ARE EQUAL, when the tokens are rows of the table and its row 0 is real. -/
theorem rV_eq (d : Dev nD) (ht : ∀ j, (tokOf m d j).toNat < 1000000)
    (hr : ∀ j : S1000000x64.Idx, (j 0).val = 0 → ∃ r : ℝ, tabOf m d j = (r : EReal)) :
    rV m d = Ref.out (F := Ideal) (tokOf m d) (tabOf m d) := by
  funext x
  have hx0 : (x 0).val < 4096 := (x 0).isLt
  have hx1 : (x 1).val < 64 := (x 1).isLt
  have hK (t : ℕ) (h : t < 128) : tokBlk (F := Ideal) (kV m d) ((x 0).val / 128) (ixT ((x 0).val % 128) t) = kV m d (ixK (x 0).val t) := by
    show kV m d (ixK (128 * ((x 0).val / 128) + (x 0).val % 128 % 128) (t % 128)) = _
    rw [Nat.mod_mod, Nat.div_add_mod, Nat.mod_eq_of_lt h]
  obtain ⟨r, hr⟩ := hr (Ref.ixTab 0 ⟨(x 1).val, hx1⟩) rfl
  refine (oT_eq (tV m d) _ _ _ r (fun c h0 h1 => ?_) ?_).trans ?_
  · rw [hK c (by omega)]; exact kV_out m d _ c h0 h1
  · exact (tV_apply m d 0 ⟨(x 1).val, hx1⟩).trans hr
  · rw [Ref.out_apply _ _ ht, Finset.sum_range, Finset.sum_range]
    have hT (t : Fin 50) : tokBlk (F := Ideal) (kV m d) ((x 0).val / 128) (ixT ((x 0).val % 128) t.val) = tokOf m d (ix2 ⟨(x 0).val, hx0⟩ t) :=
      (hK t.val (lt_trans t.isLt (by decide))).trans (kV_in m d ⟨(x 0).val, hx0⟩ t)
    refine congrArg₂ Ideal.div (Finset.sum_congr rfl fun t _ => ?_) (congrArg (max · (1 : EReal)) (Finset.sum_congr rfl fun t _ => ?_))
    · rw [hT t]
      exact congrArg (· * Ref.ind _) (tV_apply m d _ ⟨(x 1).val, hx1⟩)
    · rw [hT t]

end Cert.Proof.KernelIdeal

end
-- ==== Proof.lean ====
/-
  The certificate: both kernels' frames, the reference's frames, and that on the extended reals the kernel's result is the
  reference's. The kernels' runs are Proof/Kernel/Launch.lean and Proof/KernelIdeal/Launch.lean; the reference's is Proof/Ref.lean;
  the equality of the results is Proof/KernelIdeal/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_pad_finite
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel runs, its arguments end unchanged and its counters at zero. -/
theorem frame_p : Cert.quiescent_Kernel := fun m ρ hpre =>
  (θ_run (Cert.Kernel.defs (F := Bits)) _ _).mono (fun _ h => ⟨fun c => ⟨(h.1 c).1, (h.1 c).2.1⟩, h.2⟩)
    (Kernel.run_main m ρ fun d => Pre.pad_lt _ _ _ (Pre.tok_lt _ _ (hpre d)))

/-- The idealized kernel runs, its arguments end unchanged and its counters at zero. -/
theorem frame_pi : Cert.quiescent_KernelIdeal := fun m ρ hpre =>
  (θ_run (Cert.KernelIdeal.defs (F := Ideal)) _ _).mono (fun _ h => ⟨fun c => ⟨(h.1 c).1, (h.1 c).2.1⟩, h.2⟩)
    (KernelIdeal.run_main m ρ fun d => Pre.pad_lt _ _ _ (Pre.tok_lt _ _ (hpre d)))

/-- The same under the second precondition. -/
theorem frame_pi' : Cert.quiescent_KernelIdeal_pre_in_range_pad_finite := fun m ρ hpre =>
  (θ_run (Cert.KernelIdeal.defs (F := Ideal)) _ _).mono (fun _ h => ⟨fun c => ⟨(h.1 c).1, (h.1 c).2.1⟩, h.2⟩)
    (KernelIdeal.run_main m ρ fun d => Pre.pad_lt _ _ _ (Pre.tok_lt' _ _ (hpre d)))

/-- The reference runs and its arguments end unchanged; it has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Ref.run (F := Ideal) m ρ)

/-- The same under the second precondition. -/
theorem frame_ri' : Cert.quiescent_ReferenceIdeal_pre_in_range_pad_finite := fun m ρ _ =>
  (θ_run Cert.ReferenceIdeal.defs _ _).mono (fun r h => ⟨fun c => (h c).2, sem_eq_zero_of_no_sems (by decide) r.2⟩)
    (Ref.run (F := Ideal) m ρ)

/-- On the extended reals the kernel and the reference leave one result. -/
theorem algebraic : Cert.algebraic_KernelIdeal_ReferenceIdeal_pre_in_range_pad_finite := by
  intro m ρ m' ρ' hpre hagree
  refine ⟨fun c => KernelIdeal.rV m c, ?_, ?_⟩
  · exact (θ_run (Cert.KernelIdeal.defs (F := Ideal)) _ _).mono (fun _ h c => ⟨(h.1 c).2.2, (h.1 c).1, (h.1 c).2.1⟩)
      (KernelIdeal.run_main m ρ fun d => Pre.pad_lt _ _ _ (Pre.tok_lt' _ _ (hpre d)))
  · refine (θ_run Cert.ReferenceIdeal.defs _ _).mono (fun r h c => ⟨(h c).1.trans ?_, (h c).2⟩) (Ref.run (F := Ideal) m' ρ')
    rw [(hagree c).1, (hagree c).2]
    exact (KernelIdeal.rV_eq m c (Pre.tok_lt' _ _ (hpre c)) (Pre.row0_real _ _ (hpre c))).symm

/-- Every claim of the certificate. -/
theorem claim : Cert.Claim :=
  ⟨Cert.Kernel.Gen.facts, Cert.KernelIdeal.Gen.facts, Cert.ReferenceIdeal.Gen.facts, Cert.Pre_in_range.Gen.facts, Cert.Pre_in_range_pad_finite.Gen.facts,
    frame_p, frame_pi, frame_pi', frame_ri, frame_ri', trivial, algebraic⟩

end Cert.Proof

end
